-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S8x128 : Shape := ⟨2, ![8, 128]⟩
abbrev S3x8x128 : Shape := ⟨3, ![3, 8, 128]⟩
abbrev S3 : Shape := ⟨1, ![3]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1x1x1 : Shape := ⟨3, ![1, 1, 1]⟩
abbrev S1x8x128 : Shape := ⟨3, ![1, 8, 128]⟩
abbrev S1x3x8x128 : Shape := ⟨4, ![1, 3, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S4x1024x1024, .f32⟩
  | .local _ .vmem, ⟨2, _⟩ => ⟨S2x1024x2048, .f32⟩
  | .local _ .vmem, ⟨3, _⟩ => ⟨S8x128, .f32⟩
  | .local _ .vmem, ⟨4, _⟩ => ⟨S3x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_75 : BitVec 32 := 1024#32
  let v106 : BitVec 32 := Scalar.muli v2 c1024_i32_75
  let c0_i32_80 : BitVec 32 := 0#32
  ![v106.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_81 : BitVec 32 := 1024#32
  let v112 : BitVec 32 := Scalar.muli v2 c1024_i32_81
  let c0_i32_86 : BitVec 32 := 0#32
  ![v112.toNat, 0]
def k0_off4 (d0 : Dev nD) (c0_i32_103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v134 : BitVec 32 := Scalar.addi v2 c0_i32_103
  let c1_i32_104 : BitVec 32 := 1#32
  let v135 : BitVec 32 := Scalar.addi v134 c1_i32_104
  let c4_i32_105 : BitVec 32 := 4#32
  let c0_i32_106 : BitVec 32 := 0#32
  let v136 : BitVec 1 := Scalar.cmpi .eq c4_i32_105 c0_i32_106
  let c1_i32_107 : BitVec 32 := 1#32
  let v137 : BitVec 32 := Scalar.select v136 c1_i32_107 c4_i32_105
  let v138 : BitVec 32 := Scalar.remsi v135 v137
  let c0_i32_109 : BitVec 32 := 0#32
  let v140 : BitVec 1 := Scalar.cmpi .slt v138 c0_i32_109
  let c0_i32_110 : BitVec 32 := 0#32
  let v141 : BitVec 1 := Scalar.cmpi .slt v137 c0_i32_110
  let v142 : BitVec 1 := Scalar.xori v140 v141
  let c0_i32_108 : BitVec 32 := 0#32
  let v139 : BitVec 1 := Scalar.cmpi .ne v138 c0_i32_108
  let v143 : BitVec 1 := Scalar.andi v142 v139
  let v144 : BitVec 32 := Scalar.addi v138 v137
  let v145 : BitVec 32 := Scalar.select v143 v144 v138
  let c1024_i32_111 : BitVec 32 := 1024#32
  let v146 : BitVec 32 := Scalar.muli v145 c1024_i32_111
  let c0_i32_116 : BitVec 32 := 0#32
  ![v146.toNat, 0]
def k0_dev7 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_248 : BitVec 32 := 1#32
  let v280 : BitVec 32 := Scalar.addi v2 c1_i32_248
  let c4_i32_249 : BitVec 32 := 4#32
  let c0_i32_250 : BitVec 32 := 0#32
  let v281 : BitVec 1 := Scalar.cmpi .eq c4_i32_249 c0_i32_250
  let c1_i32_251 : BitVec 32 := 1#32
  let v282 : BitVec 32 := Scalar.select v281 c1_i32_251 c4_i32_249
  let v283 : BitVec 32 := Scalar.remsi v280 v282
  let c0_i32_253 : BitVec 32 := 0#32
  let v285 : BitVec 1 := Scalar.cmpi .slt v283 c0_i32_253
  let c0_i32_254 : BitVec 32 := 0#32
  let v286 : BitVec 1 := Scalar.cmpi .slt v282 c0_i32_254
  let v287 : BitVec 1 := Scalar.xori v285 v286
  let c0_i32_252 : BitVec 32 := 0#32
  let v284 : BitVec 1 := Scalar.cmpi .ne v283 c0_i32_252
  let v288 : BitVec 1 := Scalar.andi v287 v284
  let v289 : BitVec 32 := Scalar.addi v283 v282
  let v290 : BitVec 32 := Scalar.select v288 v289 v283
  let c1_i32_258 : BitVec 32 := 1#32
  let v291 : BitVec 32 := Scalar.muli v290 c1_i32_258
  let v292 : BitVec 32 := Scalar.addi c0_i32_259 v291
  v292.toNat
def k0_dev8 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_262 : BitVec 32 := 2#32
  let v299 : BitVec 32 := Scalar.addi v2 c2_i32_262
  let c4_i32_263 : BitVec 32 := 4#32
  let c0_i32_264 : BitVec 32 := 0#32
  let v300 : BitVec 1 := Scalar.cmpi .eq c4_i32_263 c0_i32_264
  let c1_i32_265 : BitVec 32 := 1#32
  let v301 : BitVec 32 := Scalar.select v300 c1_i32_265 c4_i32_263
  let v302 : BitVec 32 := Scalar.remsi v299 v301
  let c0_i32_267 : BitVec 32 := 0#32
  let v304 : BitVec 1 := Scalar.cmpi .slt v302 c0_i32_267
  let c0_i32_268 : BitVec 32 := 0#32
  let v305 : BitVec 1 := Scalar.cmpi .slt v301 c0_i32_268
  let v306 : BitVec 1 := Scalar.xori v304 v305
  let c0_i32_266 : BitVec 32 := 0#32
  let v303 : BitVec 1 := Scalar.cmpi .ne v302 c0_i32_266
  let v307 : BitVec 1 := Scalar.andi v306 v303
  let v308 : BitVec 32 := Scalar.addi v302 v301
  let v309 : BitVec 32 := Scalar.select v307 v308 v302
  let c1_i32_272 : BitVec 32 := 1#32
  let v310 : BitVec 32 := Scalar.muli v309 c1_i32_272
  let v311 : BitVec 32 := Scalar.addi c0_i32_273 v310
  v311.toNat
def k0_dev9 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_276 : BitVec 32 := 3#32
  let v318 : BitVec 32 := Scalar.addi v2 c3_i32_276
  let c4_i32_277 : BitVec 32 := 4#32
  let c0_i32_278 : BitVec 32 := 0#32
  let v319 : BitVec 1 := Scalar.cmpi .eq c4_i32_277 c0_i32_278
  let c1_i32_279 : BitVec 32 := 1#32
  let v320 : BitVec 32 := Scalar.select v319 c1_i32_279 c4_i32_277
  let v321 : BitVec 32 := Scalar.remsi v318 v320
  let c0_i32_281 : BitVec 32 := 0#32
  let v323 : BitVec 1 := Scalar.cmpi .slt v321 c0_i32_281
  let c0_i32_282 : BitVec 32 := 0#32
  let v324 : BitVec 1 := Scalar.cmpi .slt v320 c0_i32_282
  let v325 : BitVec 1 := Scalar.xori v323 v324
  let c0_i32_280 : BitVec 32 := 0#32
  let v322 : BitVec 1 := Scalar.cmpi .ne v321 c0_i32_280
  let v326 : BitVec 1 := Scalar.andi v325 v322
  let v327 : BitVec 32 := Scalar.addi v321 v320
  let v328 : BitVec 32 := Scalar.select v326 v327 v321
  let c1_i32_286 : BitVec 32 := 1#32
  let v329 : BitVec 32 := Scalar.muli v328 c1_i32_286
  let v330 : BitVec 32 := Scalar.addi c0_i32_287 v329
  v330.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KI.Views.lean ====
/-
# The kernel's buffers, slots and device arithmetic

Four devices stand in a ring. For `k : Fin 3`, `peer k c` is the device `k + 1` places after `c`, and
`rev k = 2 - k` names the way back: `peer (rev k) (peer k c) = c`. Device `c`'s `k`-th transfer goes to `peer k c`
and lands there in slot `rev k`; slot `j` of device `c` is filled by `peer j c`.

This module names the memrefs the kernel slices, gives the devices and offsets in closed form, shows that the
slots of a scratch buffer are disjoint and cover it, and names the contents of each slot after its transfer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI Idealize.SL.Sem

variable {F : FTy → Type} [FloatOps F]

/-! ## The ring -/

set_option backward.proofsInPublic true in
/-- The device `k + 1` places after `c`. -/
def peer (k : Fin 3) (c : Dev nD) : Dev nD := ⟨(c.val + (k.val + 1)) % 4, Nat.mod_lt _ (by decide)⟩

/-- The way back. -/
abbrev rev : Fin 3 → Fin 3 := fun | 0 => 2 | 1 => 1 | 2 => 0

theorem rev_rev (k : Fin 3) : rev (rev k) = k := by revert k; decide
theorem peer_rev (k : Fin 3) (c : Dev nD) : peer k (peer (rev k) c) = c := by revert k c; decide
theorem rev_peer (k : Fin 3) (c : Dev nD) : peer (rev k) (peer k c) = c := by revert k c; decide

/-- `peer k` as a permutation of the devices. -/
def ring (k : Fin 3) : Dev nD ≃ Dev nD := ⟨peer k, peer (rev k), rev_peer k, peer_rev k⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel

/-- The rows of `x` the `k`-th transfer reads are those of the block of the device it goes to. -/
theorem off1_eq0 (c : Dev nD) : k0_off1 c 1#32 = ![1024 * (peer 0 c).val, 0] := by revert c; decide +kernel
theorem off1_eq1 (c : Dev nD) : k0_off1 c 2#32 = ![1024 * (peer 1 c).val, 0] := by revert c; decide +kernel
theorem off1_eq2 (c : Dev nD) : k0_off1 c 3#32 = ![1024 * (peer 2 c).val, 0] := by revert c; decide +kernel
/-- The rows of `w` loaded for slot `j` are those of the block of the device that fills slot `j`. -/
theorem off4_eq0 (c : Dev nD) : k0_off4 c 0#32 = ![1024 * (peer 0 c).val, 0] := by revert c; decide +kernel
theorem off4_eq1 (c : Dev nD) : k0_off4 c 1#32 = ![1024 * (peer 1 c).val, 0] := by revert c; decide +kernel
theorem off4_eq2 (c : Dev nD) : k0_off4 c 2#32 = ![1024 * (peer 2 c).val, 0] := by revert c; decide +kernel

/-! ## The memrefs -/

abbrev xW : Memref sig .tc .hbm S4096x1024 .f32 := Memref.whole main_arg0
abbrev wW : Memref sig .tc .hbm S4096x2048 .f32 := Memref.whole main_arg1
abbrev oW : Memref sig .tc .vmem S1024x2048 .f32 := Memref.whole cc0_stg0_0
abbrev commW : Memref sig .tc .vmem S4x1024x1024 .f32 := Memref.whole cc0_scratch0
abbrev wbufW : Memref sig .tc .vmem S2x1024x2048 .f32 := Memref.whole cc0_scratch1
abbrev txW : Memref sig .tc .vmem S8x128 .f32 := Memref.whole cc0_scratch2
abbrev rxW : Memref sig .tc .vmem S3x8x128 .f32 := Memref.whole cc0_scratch3

/-- Where the block of `x` the `k`-th transfer reads begins (`k = 3`: the device's own block, copied locally). -/
abbrev xOff (c : Dev nD) : Fin 4 → Fin 2 → Nat := fun | 0 => k0_off1 c 1#32 | 1 => k0_off1 c 2#32 | 2 => k0_off1 c 3#32 | 3 => k0_off2 c
theorem xOff_inb (c : Dev nD) : ∀ (k : Fin 4) (a : Fin 2), xOff c k a + S1024x1024.size a ≤ S4096x1024.size a := fun
  | 0 => k0_off1_inb c 0 | 1 => k0_off1_inb c 1 | 2 => k0_off1_inb c 2 | 3 => k0_off2_inb c
/-- That block. -/
abbrev xM (c : Dev nD) (k : Fin 4) : Memref sig .tc .hbm S1024x1024 .f32 :=
  xW.slice (Rect.unit (s := S4096x1024) (xOff c k) S1024x1024.size (xOff_inb c k)) (fun _ => rfl)

/-- Where the block of `w` that meets slot `j` begins (`j = 3`: the device's own). -/
abbrev wOff (c : Dev nD) : Fin 4 → Fin 2 → Nat := fun | 0 => k0_off4 c 0#32 | 1 => k0_off4 c 1#32 | 2 => k0_off4 c 2#32 | 3 => k0_off3 c
theorem wOff_inb (c : Dev nD) : ∀ (k : Fin 4) (a : Fin 2), wOff c k a + S1024x2048.size a ≤ S4096x2048.size a := fun
  | 0 => k0_off4_inb c 0 | 1 => k0_off4_inb c 1 | 2 => k0_off4_inb c 2 | 3 => k0_off3_inb c
/-- That block. -/
abbrev wM (c : Dev nD) (k : Fin 4) : Memref sig .tc .hbm S1024x2048 .f32 :=
  wW.slice (Rect.unit (s := S4096x2048) (wOff c k) S1024x2048.size (wOff_inb c k)) (fun _ => rfl)

/-- Where slot `j` of the receive buffer begins, its rectangle, and the slot. -/
abbrev commOff : Fin 4 → Fin 3 → Nat := fun | 0 => ![0, 0, 0] | 1 => ![1, 0, 0] | 2 => ![2, 0, 0] | 3 => ![3, 0, 0]
theorem commOff_inb : ∀ (j : Fin 4) (a : Fin 3), commOff j a + S1x1024x1024.size a ≤ S4x1024x1024.size a := fun
  | 0 => inb_S4x1024x1024_S1x1024x1024_0_0_0 | 1 => inb_S4x1024x1024_S1x1024x1024_1_0_0
  | 2 => inb_S4x1024x1024_S1x1024x1024_2_0_0 | 3 => inb_S4x1024x1024_S1x1024x1024_3_0_0
abbrev commR (j : Fin 4) : Rect S4x1024x1024 := Rect.unit (s := S4x1024x1024) (commOff j) S1x1024x1024.size (commOff_inb j)
abbrev commM (j : Fin 4) : Memref sig .tc .vmem S1024x1024 .f32 :=
  (commW.slice (commR j) (fun _ => rfl)).squeeze S1024x1024 squeezes_S1x1024x1024_S1024x1024

/-- Where slot `j` of the weight buffer begins, its rectangle, and the slot. -/
abbrev wbufOff : Fin 2 → Fin 3 → Nat := fun | 0 => ![0, 0, 0] | 1 => ![1, 0, 0]
theorem wbufOff_inb : ∀ (j : Fin 2) (a : Fin 3), wbufOff j a + S1x1024x2048.size a ≤ S2x1024x2048.size a := fun
  | 0 => inb_S2x1024x2048_S1x1024x2048_0_0_0 | 1 => inb_S2x1024x2048_S1x1024x2048_1_0_0
abbrev wbufR (j : Fin 2) : Rect S2x1024x2048 := Rect.unit (s := S2x1024x2048) (wbufOff j) S1x1024x2048.size (wbufOff_inb j)
abbrev wbufM (j : Fin 2) : Memref sig .tc .vmem S1024x2048 .f32 :=
  (wbufW.slice (wbufR j) (fun _ => rfl)).squeeze S1024x2048 squeezes_S1x1024x2048_S1024x2048

/-- Where slot `j` of the buffer of received maxima begins, its rectangle, and the slot. -/
abbrev rxOff : Fin 3 → Fin 3 → Nat := fun | 0 => ![0, 0, 0] | 1 => ![1, 0, 0] | 2 => ![2, 0, 0]
theorem rxOff_inb : ∀ (j : Fin 3) (a : Fin 3), rxOff j a + S1x8x128.size a ≤ S3x8x128.size a := fun
  | 0 => inb_S3x8x128_S1x8x128_0_0_0 | 1 => inb_S3x8x128_S1x8x128_1_0_0 | 2 => inb_S3x8x128_S1x8x128_2_0_0
abbrev rxR (j : Fin 3) : Rect S3x8x128 := Rect.unit (s := S3x8x128) (rxOff j) S1x8x128.size (rxOff_inb j)
abbrev rxM (j : Fin 3) : Memref sig .tc .vmem S8x128 .f32 := (rxW.slice (rxR j) (fun _ => rfl)).squeeze S8x128 squeezes_S1x8x128_S8x128

/-! ## Slots are disjoint and cover their buffer -/

/-- Slot `j` as a set of elements of the receive buffer. -/
abbrev commS (j : Fin 4) : Finset S4x1024x1024.Idx := (commM j).view.set
/-- Slot `j` as a set of elements of the buffer of received maxima. -/
abbrev rxS (j : Fin 3) : Finset S3x8x128.Idx := (rxM j).view.set

theorem commM_set (j : Fin 4) : commS j = (commR j).set := (View.set_reshape _ _).trans (View.set_slice_whole _ _)
theorem rxM_set (j : Fin 3) : rxS j = (rxR j).set := (View.set_reshape _ _).trans (View.set_slice_whole _ _)

theorem mem_commS (j : Fin 4) (i : S4x1024x1024.Idx) : i ∈ commS j ↔ (i 0).val = j.val := by
  rw [commM_set, Rect.mem_set_unit]
  have h1 : (i 1).val < 1024 := (i 1).isLt
  have h2 : (i 2).val < 1024 := (i 2).isLt
  constructor
  · intro h; have := h 0; fin_cases j <;> simp at this ⊢ <;> omega
  · intro h a
    fin_cases j <;> fin_cases a <;> simp at h ⊢ <;> omega

theorem mem_rxS (j : Fin 3) (i : S3x8x128.Idx) : i ∈ rxS j ↔ (i 0).val = j.val := by
  rw [rxM_set, Rect.mem_set_unit]
  have h1 : (i 1).val < 8 := (i 1).isLt
  have h2 : (i 2).val < 128 := (i 2).isLt
  constructor
  · intro h; have := h 0; fin_cases j <;> simp at this ⊢ <;> omega
  · intro h a
    fin_cases j <;> fin_cases a <;> simp at h ⊢ <;> omega

theorem commS_disjoint (j j' : Fin 4) (h : j ≠ j') : Disjoint (commS j) (commS j') :=
  Finset.disjoint_left.mpr fun i hi hi' => h (Fin.ext (((mem_commS j i).mp hi).symm.trans ((mem_commS j' i).mp hi')))
theorem rxS_disjoint (j j' : Fin 3) (h : j ≠ j') : Disjoint (rxS j) (rxS j') :=
  Finset.disjoint_left.mpr fun i hi hi' => h (Fin.ext (((mem_rxS j i).mp hi).symm.trans ((mem_rxS j' i).mp hi')))
theorem commS_cover : Finset.univ.biUnion commS = Finset.univ := by
  ext i; simp only [Finset.mem_biUnion, Finset.mem_univ, true_and, iff_true]
  exact ⟨i 0, (mem_commS _ i).mpr rfl⟩
theorem rxS_cover : Finset.univ.biUnion rxS = Finset.univ := by
  ext i; simp only [Finset.mem_biUnion, Finset.mem_univ, true_and, iff_true]
  exact ⟨i 0, (mem_rxS _ i).mpr rfl⟩

/-! ## Reading a slot back -/

/-- A load of the rectangle of a slot, after the slot (its leading axis dropped) was written with `w`, reads `w`
    with the leading axis put back. -/
theorem readAt_slot {s t : Shape} {e : EltTy} {sp : Space} {Val : EltTy → Type} (M : Memref sig .tc sp s e) (r : Rect s) (hr : ∀ a, r.stride a = 1)
    (h : r.shape.Squeezes t) (f : M.view.ty.Contents Val) (w : t.Idx → Val e) :
    M.view.readAt Val r.toLoadRect (((M.slice r hr).squeeze t h).view.write Val f w Finset.univ)
      = fun i => w (Shape.reshapeEquiv h.numel_eq.symm i) := by
  funext i
  have h1 := congrFun (View.read_write_univ (v := ((M.slice r hr).squeeze t h).view) f w) (Shape.reshapeEquiv h.numel_eq.symm i)
  refine Eq.trans ?_ h1
  have h2 : Shape.reshapeEquiv h.numel_eq (Shape.reshapeEquiv h.numel_eq.symm i) = i := by
    rw [Shape.reshapeEquiv_reshapeEquiv, Shape.reshapeEquiv_self]
  rw [View.readAt_rect]
  conv_lhs => rw [← h2]
  rfl

/-- A vector with a leading axis of length one put in front. -/
abbrev lift {s t : Shape} (h : s.Squeezes t) {α : Type} (v : t.Idx → α) : s.Idx → α :=
  fun i => v (Shape.reshapeEquiv h.numel_eq.symm i)

end Cert.KernelIdeal.Ring

end
-- ==== Proof.KI.Values.lean ====
/-
# The values the kernel computes on each device
-/
module

public import proofs.«01_k».proof.Proof.KI.Views

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's rounds in the model's algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters in the model's algebra. -/
abbrev EC : UEmb Counters (MT nD τ sig Unit (Elt F) ℕ UU ℕ) := countersEmb

variable (m : (ℓ : Loc nD τ sig) → Buf (Elt F) ℓ)

/-! ## The values -/

/-- The receive buffer's first three slots among its four. -/
abbrev up : Fin 3 → Fin 4 := fun | 0 => 0 | 1 => 1 | 2 => 2

/-- The block of `x` that device `c` sends by its `k`-th transfer (`k = 3`: keeps). -/
def xblk (c : Dev nD) (k : Fin 4) : Vec F S1024x1024 .f32 := (xM c k).view.read (Elt F) (m ((c : Thread nD τ).loc main_arg0))
/-- The block of `w` that device `c` multiplies slot `j` by. -/
def wblk (c : Dev nD) (j : Fin 4) : Vec F S1024x2048 .f32 := (wM c j).view.read (Elt F) (m ((c : Thread nD τ).loc main_arg1))
/-- What slot `j` of device `c`'s receive buffer holds once filled. -/
def slotv (c : Dev nD) : Fin 4 → Vec F S1024x1024 .f32 := fun
  | 0 => xblk m (peer 0 c) 2 | 1 => xblk m (peer 1 c) 1 | 2 => xblk m (peer 2 c) 0 | 3 => xblk m c 3

/-- The accumulator after the device's own block, and after each received block in the kernel's order. -/
def acc0 (c : Dev nD) : Vec F S1024x2048 .f32 := k0_pay1 (lift squeezes_S1x1024x1024_S1024x1024 (slotv m c 3)) (lift squeezes_S1x1024x2048_S1024x2048 (wblk m c 3))
def acc1 (c : Dev nD) : Vec F S1024x2048 .f32 := k0_pay2 (acc0 m c) (lift squeezes_S1x1024x1024_S1024x1024 (slotv m c 0)) (lift squeezes_S1x1024x2048_S1024x2048 (wblk m c 0))
def acc2 (c : Dev nD) : Vec F S1024x2048 .f32 :=
  k0_pay5 (k0_pay3 (acc1 m c)) (k0_pay4 (lift squeezes_S1x1024x1024_S1024x1024 (slotv m c 2))) (lift squeezes_S1x1024x2048_S1024x2048 (wblk m c 2))
def acc3 (c : Dev nD) : Vec F S1024x2048 .f32 := k0_pay6 (acc2 m c) (lift squeezes_S1x1024x1024_S1024x1024 (slotv m c 1)) (lift squeezes_S1x1024x2048_S1024x2048 (wblk m c 1))
/-- The register of its own maximum that device `c` sends. -/
def txv (c : Dev nD) : Vec F S8x128 .f32 := k0_pay8 (acc3 m c)

/-- The receive buffer with every slot filled. -/
def commBuf (c : Dev nD) : Buf (Elt F) (commW.view.loc (c : Thread nD τ)) :=
  fun i : S4x1024x1024.Idx => (commM (i 0)).view.write (Elt F) (constant S4x1024x1024 .f32 0#32) (slotv m c (i 0)) Finset.univ i
/-- The buffer of received maxima with every slot filled. -/
def rxBuf (c : Dev nD) : Buf (Elt F) (rxW.view.loc (c : Thread nD τ)) :=
  fun i : S3x8x128.Idx => (rxM (i 0)).view.write (Elt F) (constant S3x8x128 .f32 0#32) (txv m (peer (i 0) c)) Finset.univ i

/-- The kernel's result on device `c`. -/
def outAt (c : Dev nD) : Vec F S1024x2048 .f32 := k0_pay10 (k0_pay7 (acc3 m c)) (k0_pay9 (rxBuf m c)) (acc3 m c)

omit [FloatOps F] in
/-- Written contents agree on what was written, whatever was there before. -/
theorem write_agree {s : Shape} {e : EltTy} {sp : Space} (v : View sig .tc sp s e) (f g : v.ty.Contents (Elt F)) (w : s.Idx → Elt F e) :
    ∀ i ∈ v.set, v.write (Elt F) f w Finset.univ i = v.write (Elt F) g w Finset.univ i := fun i hi => by
  obtain ⟨x, -, rfl⟩ := Finset.mem_map.mp hi
  rw [View.write_emb_of_mem _ _ (Finset.mem_univ x), View.write_emb_of_mem _ _ (Finset.mem_univ x)]

theorem commBuf_slot (c : Dev nD) (j : Fin 4) (f : Buf (Elt F) (commW.view.loc (c : Thread nD τ))) :
    ∀ i ∈ commS j, (commM j).view.write (Elt F) f (slotv m c j) Finset.univ i = commBuf m c i := fun i hi => by
  have h : (i : S4x1024x1024.Idx) 0 = j := Fin.ext ((mem_commS j i).mp hi)
  unfold commBuf
  rw [h]
  exact write_agree (commM j).view _ _ _ i hi
theorem rxBuf_slot (c : Dev nD) (j : Fin 3) (f : Buf (Elt F) (rxW.view.loc (c : Thread nD τ))) :
    ∀ i ∈ rxS j, (rxM j).view.write (Elt F) f (txv m (peer j c)) Finset.univ i = rxBuf m c i := fun i hi => by
  have h : (i : S3x8x128.Idx) 0 = j := Fin.ext ((mem_rxS j i).mp hi)
  unfold rxBuf
  rw [h]
  exact write_agree (rxM j).view _ _ _ i hi

/-- The elements a load of slot `j` reads are the slot's. -/
theorem comm_loadSet (j : Fin 4) : commW.view.setOn (commR j).toLoadRect.set = commS j :=
  ((View.set_slice commW.view (commR j)).symm.trans (View.set_slice_whole _ _)).trans (commM_set j).symm

/-- A load of slot `j` of the filled receive buffer. -/
theorem read_comm (c : Dev nD) (j : Fin 4) :
    commW.view.readAt (Elt F) (commR j).toLoadRect (commBuf m c) = lift squeezes_S1x1024x1024_S1024x1024 (slotv m c j) := by
  refine (View.readAt_congr fun i hi => (commBuf_slot m c j (commBuf m c) i ?_).symm).trans
    (readAt_slot commW (commR j) (fun _ => rfl) squeezes_S1x1024x1024_S1024x1024 (commBuf m c) (slotv m c j))
  exact (Finset.ext_iff.mp (comm_loadSet j) i).mp hi

end Cert.KernelIdeal.Ring

end
-- ==== Proof.KI.Schedule.lean ====
/-
# Cells and the schedule

The semaphore cells its handshakes and transfers go through, and the
one-round schedule they follow: who raises a cell, by how much, and what the raise hands over.

* A device's barrier cell has three duties of one unit, duty `j` paid by `peer j c`: it hands over slot `rev j` of that
  device's two receive buffers, into which `c` will write.
* The `k`-th send cell has one duty: the block of `x` the transfer read, back.
* The `j`-th receive cell has one duty: slot `j` of the receive buffer, holding the block `peer j c` sent.
* The cells of the exchange of maxima are the same with the one-register buffers.
-/
module

public import proofs.«01_k».proof.Proof.KI.Values

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

abbrev semOff : Fin 3 → Fin 1 → Nat := fun | 0 => ![0] | 1 => ![1] | 2 => ![2]
theorem semOff_inb : ∀ (k : Fin 3) (a : Fin 1), semOff k a + S1.size a ≤ S3.size a := fun | 0 => inb_S3_S1_0 | 1 => inb_S3_S1_1 | 2 => inb_S3_S1_2
/-- The `k`-th semaphore of an array of three. -/
abbrev semAt (a : DmaSems sig S3) (k : Fin 3) : DmaSem sig := ((a.slice (Rect.unit (s := S3) (semOff k) S1.size (semOff_inb k))).squeeze S_ squeezes_S1_S_).sem

abbrev barS : Sem sig := (SemArray.scalar (sig.barrier 0 rfl) : Sems sig S_).sem
abbrev sendS (k : Fin 3) : DmaSem sig := semAt cc0_scratch4 k
abbrev recvS (k : Fin 3) : DmaSem sig := semAt cc0_scratch5 k
abbrev asendS (k : Fin 3) : DmaSem sig := semAt cc0_scratch6 k
abbrev arecvS (k : Fin 3) : DmaSem sig := semAt cc0_scratch7 k
/-- The two semaphores of the local copies. -/
abbrev loc0 : DmaSem sig := ((cc0_scratch8.slice (Rect.unit (s := S2) ![0] S1.size inb_S2_S1_0)).squeeze S_ squeezes_S1_S_).sem
abbrev loc1 : DmaSem sig := ((cc0_scratch8.slice (Rect.unit (s := S2) ![1] S1.size inb_S2_S1_1)).squeeze S_ squeezes_S1_S_).sem

/-- What a cell of a device is for. -/
inductive Role | bar | send (k : Fin 3) | recv (j : Fin 3) | asend (k : Fin 3) | arecv (j : Fin 3)
  deriving DecidableEq

/-- All thirteen. -/
abbrev roles : List Role :=
  [.bar, .send 0, .send 1, .send 2, .recv 0, .recv 1, .recv 2, .asend 0, .asend 1, .asend 2, .arecv 0, .arecv 1, .arecv 2]
theorem mem_roles (r : Role) : r ∈ roles := by
  rcases r with _ | k | k | k | k
  · decide
  all_goals (revert k; decide)
theorem roles_nodup : roles.Nodup := by decide
instance : Fintype Role := ⟨roles.toFinset, fun r => List.mem_toFinset.mpr (mem_roles r)⟩

abbrev csem : Role → SemLoc sig := fun
  | .bar => .reg barS | .send k => .dma (sendS k) | .recv j => .dma (recvS j) | .asend k => .dma (asendS k) | .arecv j => .dma (arecvS j)

/-- What a semaphore is for. -/
def cls (s : SemLoc sig) : Option Role := roles.find? fun r => csem r = s
theorem cls_csem (r : Role) : cls (csem r) = some r := by
  revert r; decide +kernel
theorem csem_injective : Function.Injective csem := fun r r' h =>
  Option.some.inj ((cls_csem r).symm.trans ((congrArg cls h).trans (cls_csem r')))

abbrev cell (c : Dev nD) (r : Role) : GSem nD τ sig := ((c : Thread nD τ), csem r)

/-- The units a block, a register of a maximum and a block of weights credit. -/
@[irreducible] def N : ℕ := (commM 0).view.dmaCredit
@[irreducible] def NA : ℕ := (rxM 0).view.dmaCredit
@[irreducible] def NW : ℕ := (wbufM 0).view.dmaCredit
theorem N_pos : 0 < N := by unfold N; exact View.dmaCredit_pos _ (by decide +kernel)
theorem NA_pos : 0 < NA := by unfold NA; exact View.dmaCredit_pos _ (by decide +kernel)
theorem NW_pos : 0 < NW := by unfold NW; exact View.dmaCredit_pos _ (by decide +kernel)

/-! ## What the duties hand over -/

/-- The shares under which the four copies out of `x`, and the three out of the register of the maximum, read. -/
abbrev xq : Fin 4 → PosShare TreeShare := fun | 0 => fullShare.left.left | 1 => fullShare.left.right | 2 => fullShare.right.left | 3 => fullShare.right.right
abbrev tq : Fin 3 → PosShare TreeShare := fun | 0 => fullShare.left | 1 => fullShare.right.left | 2 => fullShare.right.right

/-- Slot `j` of the receive buffer at contents `f`. -/
def commPts (c : Dev nD) (j : Fin 4) (f : Buf (Elt F) (commW.view.loc (c : Thread nD τ))) : sProp 𝕄 :=
  (commM j).view.loc (c : Thread nD τ) ↦[(commM j).view.set]{fullShare} f
/-- Slot `j` of the buffer of received maxima at contents `f`. -/
def rxPts (c : Dev nD) (j : Fin 3) (f : Buf (Elt F) (rxW.view.loc (c : Thread nD τ))) : sProp 𝕄 :=
  (rxM j).view.loc (c : Thread nD τ) ↦[(rxM j).view.set]{fullShare} f
/-- The block of `x` the `k`-th copy reads, at its share. -/
def xPts (c : Dev nD) (k : Fin 4) : sProp 𝕄 :=
  (xM c k).view.loc (c : Thread nD τ) ↦[(xM c k).view.set]{xq k} m ((c : Thread nD τ).loc main_arg0)
/-- The register of the maximum, at the `k`-th transfer's share. -/
def txPts (c : Dev nD) (k : Fin 3) : sProp 𝕄 :=
  txW.view.loc (c : Thread nD τ) ↦[txW.view.set]{tq k} txv m c

def barPay (c : Dev nD) (j : Fin 3) : sProp 𝕄 :=
  iprop((∃ f, commPts (peer j c) (up (rev j)) f) ∗ (∃ f, rxPts (peer j c) (rev j) f))

/-- How many units each duty raises its cell by. -/
def amt : Role → ℕ := fun | .bar => 1 | .send _ => N | .recv _ => N | .asend _ => NA | .arecv _ => NA
/-- What each duty hands the cell's owner. -/
def pay (c : Dev nD) : Role → Fin 3 → sProp 𝕄 := fun
  | .bar, d => barPay c d
  | .send k, _ => xPts m c (up k)
  | .recv j, _ => commPts c (up j) (commBuf m c)
  | .asend k, _ => txPts m c k
  | .arecv j, _ => rxPts c j (rxBuf m c)

omit [FloatOps F] in
instance commPts_storable (c : Dev nD) (j f) : BI.Storable (upEmb : UEmb _ 𝕄) (commPts (F := F) c j f) := by unfold commPts; infer_instance
omit [FloatOps F] in
instance rxPts_storable (c : Dev nD) (j f) : BI.Storable (upEmb : UEmb _ 𝕄) (rxPts (F := F) c j f) := by unfold rxPts; infer_instance
omit [FloatOps F] in
instance xPts_storable (c : Dev nD) (k) : BI.Storable (upEmb : UEmb _ 𝕄) (xPts (F := F) m c k) := by unfold xPts; infer_instance
instance txPts_storable (c : Dev nD) (k) : BI.Storable (upEmb : UEmb _ 𝕄) (txPts (F := F) m c k) := by unfold txPts; infer_instance
instance pay_storable (c : Dev nD) (r : Role) (d : Fin 3) : BI.Storable (upEmb : UEmb _ 𝕄) (pay (F := F) m c r d) := by
  cases r <;> (unfold pay; try unfold barPay) <;> infer_instance

theorem amt_pos (r : Role) : 0 < amt r := by
  cases r
  · exact Nat.one_pos
  · exact N_pos
  · exact N_pos
  · exact NA_pos
  · exact NA_pos

/-- The duties of a cell in its one round. -/
def dut : Role → Finset (Fin 3) := fun | .bar => Finset.univ | _ => {0}

/-- One round: a barrier cell has three duties, the others one. -/
def rd : Rounds.Schedule (GSem nD τ sig) (Fin 3) 𝕄 where
  duties g r := if r = 0 ∧ g.1.2 = .tc then (match cls g.2 with | some i => dut i | none => ∅) else ∅
  unitless _ := False
  amount g _ _ := match cls g.2 with | some i => amt i | none => 1
  payload g _ d := match cls g.2 with | some i => pay m g.1.1 i d | none => iprop(emp)
  amount_pos g _ _ _ := by
    cases cls g.2 with
    | none => exact Nat.one_pos
    | some i => exact amt_pos i

instance rd_payload_storable (g : GSem nD τ sig) (r : ℕ) (d : Fin 3) :
    BI.Storable (upEmb : UEmb _ 𝕄) ((rd (F := F) m).payload g r d) := by
  show BI.Storable upEmb (match cls g.2 with | some i => pay m g.1.1 i d | none => iprop(emp))
  cases cls g.2 <;> dsimp only <;> infer_instance

theorem duties_cell (c : Dev nD) (r : Role) : (rd (F := F) m).duties (cell c r) 0 = dut r := by
  dsimp only [rd]; rw [cls_csem]; exact if_pos ⟨rfl, rfl⟩
theorem duties_later (g : GSem nD τ sig) : ∀ r, 1 ≤ r → (rd (F := F) m).duties g r = ∅ :=
  fun r hr => by dsimp only [rd]; rw [if_neg fun h => by omega]
theorem amount_cell (c : Dev nD) (r : Role) (d : Fin 3) : (rd (F := F) m).amount (cell c r) 0 d = amt r := by
  dsimp only [rd]; rw [cls_csem]
theorem payload_cell (c : Dev nD) (r : Role) (d : Fin 3) : (rd (F := F) m).payload (cell c r) 0 d = pay m c r d := by
  dsimp only [rd]; rw [cls_csem]
theorem expect_cell (c : Dev nD) (r : Role) : (rd (F := F) m).expect (cell c r) 0 = (dut r).card * amt r := by
  unfold Schedule.expect Schedule.amountOf
  rw [duties_cell, Finset.sum_congr rfl fun d _ => amount_cell m c r d, Finset.sum_const, smul_eq_mul]

/-- The whole of a transfer cell's round is its one duty's payload. -/
theorem rest_one (c : Dev nD) (r : Role) (hr : dut r = {0}) :
    bigSep ((rd (F := F) m).duties (cell c r) 0 \ ∅) (fun d => (rd (F := F) m).payload (cell c r) 0 d) = pay m c r 0 := by
  rw [Finset.sdiff_empty, duties_cell, hr, bigSep_singleton, payload_cell]
/-- The whole of a barrier cell's round is the three devices' payloads. -/
theorem rest_bar (c : Dev nD) :
    bigSep ((rd (F := F) m).duties (cell c .bar) 0 \ ∅) (fun d => (rd (F := F) m).payload (cell c .bar) 0 d) = iprop(barPay c 0 ∗ barPay c 1 ∗ barPay c 2) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl

/-! ## What each device owes, and the levels of its waits -/

/-- What is still owed: before the third, second, first transfer of the maximum; … -/
def OA3 (c : Dev nD) : CellTallies nD τ sig Unit := tallyAt (cell (peer 2 c) (.arecv (rev 2))) () NA
def OA2 (c : Dev nD) : CellTallies nD τ sig Unit := OA3 c + tallyAt (cell (peer 1 c) (.arecv (rev 1))) () NA
def OA1 (c : Dev nD) : CellTallies nD τ sig Unit := OA2 c + tallyAt (cell (peer 0 c) (.arecv (rev 0))) () NA
/-- … before the third, second, first transfer of a block; … -/
def OR3 (c : Dev nD) : CellTallies nD τ sig Unit := OA1 c + tallyAt (cell (peer 2 c) (.recv (rev 2))) () N
def OR2 (c : Dev nD) : CellTallies nD τ sig Unit := OR3 c + tallyAt (cell (peer 1 c) (.recv (rev 1))) () N
def OR1 (c : Dev nD) : CellTallies nD τ sig Unit := OR2 c + tallyAt (cell (peer 0 c) (.recv (rev 0))) () N
/-- … before the third, second, first signal. -/
def OB3 (c : Dev nD) : CellTallies nD τ sig Unit := OR1 c + tallyAt (cell (peer 2 c) .bar) () 1
def OB2 (c : Dev nD) : CellTallies nD τ sig Unit := OB3 c + tallyAt (cell (peer 1 c) .bar) () 1
def O₀ (c : Dev nD) : CellTallies nD τ sig Unit := OB2 c + tallyAt (cell (peer 0 c) .bar) () 1

def L (g : GSem nD τ sig) : Finset Unit := if g.1.2 = .tc then {()} else ∅
/-- The level of a wait: barrier 1, receives of blocks 2, receives of maxima 3, everything else 0. -/
def rlv : Option Role → ℕ := fun | some .bar => 1 | some (.recv _) => 2 | some (.arecv _) => 3 | _ => 0
def lv (g : GSem nD τ sig) (_ : Unit) : ℕ := rlv (cls g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) (u : Unit) : lv (cell c r) u = rlv (some r) := by unfold lv; rw [cls_csem]

/-- Everything owed in `O` is owed to a TensorCore's cell at a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_tally {n : ℕ} (c : Dev nD) (r : Role) (k : ℕ) (h : n < rlv (some r)) : Above n (tallyAt (cell c r) () k) := fun g u hg => by
  rw [tallyAt_apply] at hg
  by_cases h' : g = cell c r ∧ u = ()
  · rw [h'.1, lv_cell]; exact ⟨rfl, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

theorem above_OA3 (c : Dev nD) {n : ℕ} (h : n < 3) : Above n (OA3 c) := above_tally _ _ _ h
theorem above_OA2 (c : Dev nD) {n : ℕ} (h : n < 3) : Above n (OA2 c) := above_add (above_OA3 c h) (above_tally _ _ _ h)
theorem above_OA1 (c : Dev nD) {n : ℕ} (h : n < 3) : Above n (OA1 c) := above_add (above_OA2 c h) (above_tally _ _ _ h)
theorem above_OR1 (c : Dev nD) {n : ℕ} (h : n < 2) : Above n (OR1 c) :=
  above_add (above_add (above_add (above_OA1 c (by omega)) (above_tally _ _ _ h)) (above_tally _ _ _ h)) (above_tally _ _ _ h)
theorem above_O₀ (c : Dev nD) : Above 0 (O₀ c) :=
  above_add (above_add (above_add (above_OR1 c (by omega)) (above_tally _ _ _ Nat.one_pos)) (above_tally _ _ _ Nat.one_pos)) (above_tally _ _ _ Nat.one_pos)

/-- A device may wait on a cell when all it owes is owed above that cell's level. -/
theorem mayWait (c : Dev nD) (sm : SemLoc sig) (O : CellTallies nD τ sig Unit) (hO : Above (rlv (cls sm)) O) :
    (levAts L lv : sProp 𝕄) ⊢ MayWait (c : Thread nD τ) sm () O :=
  MayOwe.of_cut (L := L) (lev := lv) (rlv (cls sm)) (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact le_rfl)
    (fun g u hg => (hO g u hg).2)

end Cert.KernelIdeal.Ring

end
-- ==== Proof.KI.Steps.lean ====
/-
# The rules of the kernel's operations

One rule per kind of operation the kernel performs, stated at the cells and slots of the schedule: a signal, the wait at
the barrier, the two kinds of transfer, a wait on a transfer, and the copies within a device.
-/
module

public import proofs.«01_k».proof.Proof.KI.Schedule
public import Idealize.ShloMosaic.Lib.Transfers

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` runs to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows: the cells' invariants, that every cell is at its round, the levels -/

/-- A cell's invariant under its name, and that its round is reached. -/
def known (K : Dev nD × Role → ℕ) (p : Dev nD × Role) : sProp 𝕄 :=
  iprop(cellInv ER (rd m) (K p) (cell p.1 p.2) ∗ reached ER (cell p.1 p.2) 0)
instance known_persistent (K : Dev nD × Role → ℕ) (p : Dev nD × Role) : BI.Persistent (known m K p) := by unfold known; infer_instance
/-- All of them, and the levels. -/
def world (K : Dev nD × Role → ℕ) : sProp 𝕄 := iprop(bigSep Finset.univ (known m K) ∗ levAts L lv)
instance world_persistent (K : Dev nD × Role → ℕ) : BI.Persistent (world m K) := by unfold world; infer_instance

variable {m} {K : Dev nD × Role → ℕ}

theorem world_known (c : Dev nD) (r : Role) : world m K ⊢ known m K (c, r) := by
  unfold world
  iintro ⟨#H, -⟩
  iapply (show bigSep Finset.univ (known m K) ⊢ known m K (c, r) from bigSep_elim (Finset.mem_univ (c, r))) $$ H
theorem world_inv (c : Dev nD) (r : Role) : world m K ⊢ cellInv ER (rd m) (K (c, r)) (cell c r) := by
  refine (world_known c r).trans ?_
  unfold known; iintro ⟨H, -⟩; iexact H
theorem world_reached (c : Dev nD) (r : Role) : world m K ⊢ reached ER (cell c r) 0 := by
  refine (world_known c r).trans ?_
  unfold known; iintro ⟨-, H⟩; iexact H
theorem world_mayWait (c : Dev nD) (sm : SemLoc sig) (O : CellTallies nD τ sig Unit) (hO : Above (rlv (cls sm)) O) :
    world m K ⊢ MayWait (c : Thread nD τ) sm () O := by
  refine BIBase.Entails.trans ?_ (mayWait c sm O hO)
  unfold world; iintro ⟨-, H⟩; iexact H

/-! ## The handshake -/

/-- The `k`-th signal: it hands slot `k` of the device's own receive buffers to the device it goes to. -/
theorem step_signal (c : Dev nD) (k : Fin 3) {n : Dev nD} (hn : n = peer k c) {v : ℕ} (hv : 1 = v)
    {α : Type} {Q : α → sProp 𝕄} {kt : PUnit → Prog (TpuEff nD τ sig (Elt F) Λ₀ .tc) α}
    {O₁ : CellTallies nD τ sig Unit} (O : CellTallies nD τ sig Unit) (hO : O₁ = O + tallyAt (cell (peer k c) .bar) () 1) {W : Waits sig Unit} :
    iprop(world m K ∗ owes (c : Thread nD τ) O₁ W ∗ dutyTok ER (cell (peer k c) .bar) 0 (rev k)
        ∗ (∃ f, commPts c (up k) f) ∗ (∃ f, rxPts c k f))
      ⊢ iprop((owes (c : Thread nD τ) O W -∗ WP c (kt ⟨⟩) Q) -∗ WP c (.op (.semSignal (n : Thread nD τ) barS v) kt) Q) := by
  subst hn; subst hv
  iintro ⟨#Hw, HO, Ht, Hc, Hr⟩
  iapply (Rounds.wp_signal 𝒱₀ ER (rd m) (c : Thread nD τ) none (dst := (peer k c : Thread nD τ)) (κ := K (peer k c, .bar))
      (d := rev k) (by show _ ∈ (rd m).duties (cell (peer k c) .bar) 0; rw [duties_cell]; exact Finset.mem_univ _) (amount_cell m (peer k c) .bar (rev k)) () O hO)
  isplitr; · iapply (world_inv (peer k c) .bar) $$ Hw
  isplitl [HO]; · iexact HO
  isplitl [Ht]; · iexact Ht
  isplitl [Hc Hr]
  · rw [show (rd m).payload ((peer k c : Thread nD τ), SemLoc.reg barS) 0 (rev k) = barPay (peer k c) (rev k) from payload_cell m (peer k c) .bar (rev k)]
    unfold barPay
    rw [rev_peer, rev_rev]
    isplitl [Hc] <;> iassumption
  iapply (world_reached (peer k c) .bar) $$ Hw

/-- The wait at the barrier: every peer's slots come with it, and the cell closes. -/
theorem step_barrier (c : Dev nD) {v : ℕ} (hv : 3 = v) {α : Type} {Q : α → sProp 𝕄} {kt : PUnit → Prog (TpuEff nD τ sig (Elt F) Λ₀ .tc) α}
    {O : CellTallies nD τ sig Unit} (hO : Above 1 O) {W : Waits sig Unit} :
    iprop(world m K ∗ owes (c : Thread nD τ) O W ∗ cred (tallyAt (cell c .bar) () 3) ∗ atPos ER (cell c .bar) 0 ∅ 0)
      ⊢ iprop((iprop(owes (c : Thread nD τ) O (insert (SemLoc.reg barS, ()) W) ∗ semVal (cell c .bar) 0 ∗ barPay c 0 ∗ barPay c 1 ∗ barPay c 2) -∗ WP c (kt ⟨⟩) Q)
          -∗ WP c (.op (.semWait barS v) kt) Q) := by
  subst hv
  iintro ⟨#Hw, HO, Hc, Hat⟩ Hk
  iapply (Rounds.wp_wait_rest_token 𝒱₀ ER (rd m) (c : Thread nD τ) none (κ := K (c, .bar))
      (wpE_semWait_eq 𝒱₀ (c : Thread nD τ) none Set.univ) (Set.mem_univ _) () (O := O) (W := W) (R := 0) (m := 0) (T := ∅)
      (by rw [show (rd m).expect ((c : Thread nD τ), SemLoc.reg barS) 0 = _ from expect_cell m c .bar]; rfl)) $$ [Hc HO Hat]
  · isplitr; · iapply (world_inv c .bar) $$ Hw
    isplitl [Hc]; · iexact Hc
    isplitl [HO]; · iexact HO
    isplitr; · iapply (world_mayWait c (csem .bar) O (by rw [cls_csem]; exact hO)) $$ Hw
    iexact Hat
  iintro ⟨HO, Hat, -, Hpay⟩
  imod (Rounds.cell_close ER (rd m) (Set.mem_univ (K (c, .bar))) (fun h => h) (R := 0 + 1) (duties_later m (cell c .bar))) $$ [Hat] with Hz
  · isplitr; · iapply (world_inv c .bar) $$ Hw
    iexact Hat
  iapply Hk
  isplitl [HO]; · iexact HO
  isplitl [Hz]; · iexact Hz
  iapply (Entails.of_eq (rest_bar m c)) $$ Hpay

/-- A wait on a transfer's cell: the one duty's payload comes with it, and the cell closes. -/
theorem step_wait (c : Dev nD) (r : Role) (hr : dut r = {0}) {sm : DmaSem sig} (hsm : csem r = .dma sm)
    {sp sp' : Space} {s s' : Shape} {e e' : EltTy} {src : Memref sig .tc sp' s' e'} {dst : Memref sig .tc sp s e}
    {hsrc : src.view.WordExact} {hdst : dst.view.WordExact} (hN : dst.view.dmaCredit = amt r)
    {α : Type} {Q : α → sProp 𝕄} {kt : PUnit → Prog (TpuEff nD τ sig (Elt F) Λ₀ .tc) α}
    {O : CellTallies nD τ sig Unit} (hO : Above (rlv (some r)) O) {W : Waits sig Unit} :
    iprop(world m K ∗ owes (c : Thread nD τ) O W ∗ cred (tallyAt (cell c r) () (amt r)) ∗ atPos ER (cell c r) 0 ∅ 0)
      ⊢ iprop((iprop(owes (c : Thread nD τ) O (insert (csem r, ()) W) ∗ semVal (cell c r) 0 ∗ pay m c r 0) -∗ WP c (kt ⟨⟩) Q)
          -∗ WP c (.op (.waitDma2 sm src dst hsrc hdst) kt) Q) := by
  rw [← hN]
  have hx : (0 : ℕ) + dst.view.dmaCredit = (rd m).expect ((c : Thread nD τ), SemLoc.dma sm) 0 := by
    rw [← hsm, show (rd m).expect ((c : Thread nD τ), csem r) 0 = _ from expect_cell m c r, hr, hN, Finset.card_singleton, one_mul, zero_add]
  iintro ⟨#Hw, HO, Hc, Hat⟩ Hk
  unfold cell
  rw [hsm]
  iapply (Rounds.wp_wait_rest_token 𝒱₀ ER (rd m) (c : Thread nD τ) none (κ := K (c, r))
      (wpE_waitDma2_eq 𝒱₀ (c : Thread nD τ) none Set.univ) (Set.mem_univ _) () (O := O) (W := W) (R := 0) (m := 0) (T := ∅)
      hx) $$ [Hc HO Hat]
  · isplitr; · rw [← hsm]; iapply (world_inv c r) $$ Hw
    isplitl [Hc]; · iexact Hc
    isplitl [HO]; · iexact HO
    isplitr; · rw [← hsm]; iapply (world_mayWait c (csem r) O (by rw [cls_csem]; exact hO)) $$ Hw
    iexact Hat
  rw [← hsm]
  iintro ⟨HO, Hat, -, Hpay⟩
  imod (Rounds.cell_close ER (rd m) (Set.mem_univ (K (c, r))) (fun h => h) (R := 0 + 1) (duties_later m (cell c r))) $$ [Hat] with Hz
  · isplitr; · iapply (world_inv c r) $$ Hw
    iexact Hat
  iapply Hk
  isplitl [HO]; · iexact HO
  isplitl [Hz]; · iexact Hz
  iapply (Entails.of_eq (rest_one m c r hr)) $$ Hpay

/-! ## The transfers -/

theorem commM_credit (j : Fin 4) : (commM j).view.dmaCredit = N := by unfold N; rfl
theorem rxM_credit (j : Fin 3) : (rxM j).view.dmaCredit = NA := by unfold NA; rfl
theorem wbufM_credit (j : Fin 2) : (wbufM j).view.dmaCredit = NW := by unfold NW; rfl

theorem slotv_up (c : Dev nD) (j : Fin 3) : slotv m c (up j) = xblk m (peer j c) (up (rev j)) := by
  fin_cases j <;> rfl

/-- The `k`-th transfer of a block: to slot `rev k` of `peer k c`. -/
theorem step_send (c : Dev nD) (k : Fin 3) {n : Dev nD} (hn : n = peer k c)
    {hsc : (commM (up (rev k)) : Memref sig (Dev.tc n : Thread nD τ).2.kind .vmem S1024x1024 .f32).view.ref.isScScratch = false}
    {hsrc : (xM c (up k)).view.WordExact} {hdst : (commM (up (rev k))).view.WordExact}
    {hsem : DmaTarget.Typed .hbm (.dma (recvS (rev k))) (.remote (Dev.tc n : Thread nD τ) (commM (up (rev k))) (.dma (sendS k)) hsc)}
    {α : Type} {Q : α → sProp 𝕄} {kt : PUnit → Prog (TpuEff nD τ sig (Elt F) Λ₀ .tc) α}
    {O₁ : CellTallies nD τ sig Unit} (O : CellTallies nD τ sig Unit) (hO : O₁ = O + tallyAt (cell (peer k c) (.recv (rev k))) () N) {W : Waits sig Unit} :
    iprop(world m K ∗ owes (c : Thread nD τ) O₁ W ∗ xPts m c (up k) ∗ (∃ f, commPts (peer k c) (up (rev k)) f)
        ∗ dutyTok ER (cell c (.send k)) 0 0 ∗ dutyTok ER (cell (peer k c) (.recv (rev k))) 0 0)
      ⊢ iprop((iprop(cred (tallyAt (cell c (.send k)) () N) ∗ owes (c : Thread nD τ) O W) -∗ WP c (kt ⟨⟩) Q)
          -∗ WP c (.op (.enqueueDma (xM c (up k)) (.remote (Dev.tc n : Thread nD τ) (commM (up (rev k))) (.dma (sendS k)) hsc) (.dma (recvS (rev k))) hsrc hdst hsem) kt) Q) := by
  subst hn
  iintro ⟨#Hw, HO, Hx, ⟨%fn, Hc⟩, HtS, HtR⟩
  unfold xPts commPts
  iapply (Rounds.wp_send_pointsTo 𝒱₀ ER (rd m) (c : Thread nD τ) none (c' := (peer k c : Thread nD τ)) (src := xM c (up k)) (dst := commM (up (rev k)))
    (sS := .dma (sendS k)) (sem := .dma (recvS (rev k))) (κ₁ := K (c, .send k)) (κ₂ := K (peer k c, .recv (rev k)))
    (r₁ := 0) (r₂ := 0) (d₁ := 0) (d₂ := 0) (fd := fn)
    (by show _ ∈ (rd m).duties (cell c (.send k)) 0; rw [duties_cell]; exact Finset.mem_singleton_self _)
    (by show _ ∈ (rd m).duties (cell (peer k c) (.recv (rev k))) 0; rw [duties_cell]; exact Finset.mem_singleton_self _)
    () () N (commM_credit _) (amount_cell m c (.send k) 0) (amount_cell m (peer k c) (.recv (rev k)) 0) O hO (W := W)
    (by rw [show (rd m).payload ((c : Thread nD τ), SemLoc.dma (sendS k)) 0 0 = xPts m c (up k) from payload_cell m c (.send k) 0]; exact BI.Entails.refl _)
    (by
      rw [show (rd m).payload ((peer k c : Thread nD τ), SemLoc.dma (recvS (rev k))) 0 0 = commPts (peer k c) (up (rev k)) (commBuf m (peer k c))
        from payload_cell m (peer k c) (.recv (rev k)) 0]
      unfold commPts
      refine Entails.of_eq (pointsTo_congr fun i hi => ?_)
      rw [← commBuf_slot m (peer k c) (up (rev k)) fn i hi, slotv_up, rev_peer, rev_rev]
      rfl))
  isplitr; · iapply (world_inv c (.send k)) $$ Hw
  isplitr; · iapply (world_inv (peer k c) (.recv (rev k))) $$ Hw
  isplitl [Hx]; · iexact Hx
  isplitl [Hc]; · iexact Hc
  isplitl [HO]; · iexact HO
  isplitl [HtS]; · iexact HtS
  isplitr; · iapply (world_reached c (.send k)) $$ Hw
  isplitl [HtR]; · iexact HtR
  iapply (world_reached (peer k c) (.recv (rev k))) $$ Hw

/-- The `k`-th transfer of the maximum: to slot `rev k` of `peer k c`. -/
theorem step_asend (c : Dev nD) (k : Fin 3) {n : Dev nD} (hn : n = peer k c)
    {hsc : (rxM (rev k) : Memref sig (Dev.tc n : Thread nD τ).2.kind .vmem S8x128 .f32).view.ref.isScScratch = false}
    {hsrc : txW.view.WordExact} {hdst : (rxM (rev k)).view.WordExact}
    {hsem : DmaTarget.Typed .vmem (.dma (arecvS (rev k))) (.remote (Dev.tc n : Thread nD τ) (rxM (rev k)) (.dma (asendS k)) hsc)}
    {α : Type} {Q : α → sProp 𝕄} {kt : PUnit → Prog (TpuEff nD τ sig (Elt F) Λ₀ .tc) α}
    {O₁ : CellTallies nD τ sig Unit} (O : CellTallies nD τ sig Unit) (hO : O₁ = O + tallyAt (cell (peer k c) (.arecv (rev k))) () NA) {W : Waits sig Unit} :
    iprop(world m K ∗ owes (c : Thread nD τ) O₁ W ∗ txPts m c k ∗ (∃ f, rxPts (peer k c) (rev k) f)
        ∗ dutyTok ER (cell c (.asend k)) 0 0 ∗ dutyTok ER (cell (peer k c) (.arecv (rev k))) 0 0)
      ⊢ iprop((iprop(cred (tallyAt (cell c (.asend k)) () NA) ∗ owes (c : Thread nD τ) O W) -∗ WP c (kt ⟨⟩) Q)
          -∗ WP c (.op (.enqueueDma txW (.remote (Dev.tc n : Thread nD τ) (rxM (rev k)) (.dma (asendS k)) hsc) (.dma (arecvS (rev k))) hsrc hdst hsem) kt) Q) := by
  subst hn
  iintro ⟨#Hw, HO, Hx, ⟨%fn, Hc⟩, HtS, HtR⟩
  unfold txPts rxPts
  iapply (Rounds.wp_send_pointsTo 𝒱₀ ER (rd m) (c : Thread nD τ) none (c' := (peer k c : Thread nD τ)) (src := txW) (dst := rxM (rev k))
    (sS := .dma (asendS k)) (sem := .dma (arecvS (rev k))) (κ₁ := K (c, .asend k)) (κ₂ := K (peer k c, .arecv (rev k)))
    (r₁ := 0) (r₂ := 0) (d₁ := 0) (d₂ := 0) (fd := fn)
    (by show _ ∈ (rd m).duties (cell c (.asend k)) 0; rw [duties_cell]; exact Finset.mem_singleton_self _)
    (by show _ ∈ (rd m).duties (cell (peer k c) (.arecv (rev k))) 0; rw [duties_cell]; exact Finset.mem_singleton_self _)
    () () NA (rxM_credit _) (amount_cell m c (.asend k) 0) (amount_cell m (peer k c) (.arecv (rev k)) 0) O hO (W := W)
    (by rw [show (rd m).payload ((c : Thread nD τ), SemLoc.dma (asendS k)) 0 0 = txPts m c k from payload_cell m c (.asend k) 0]; exact BI.Entails.refl _)
    (by
      rw [show (rd m).payload ((peer k c : Thread nD τ), SemLoc.dma (arecvS (rev k))) 0 0 = rxPts (peer k c) (rev k) (rxBuf m (peer k c))
        from payload_cell m (peer k c) (.arecv (rev k)) 0]
      unfold rxPts
      refine Entails.of_eq (pointsTo_congr fun i hi => ?_)
      rw [← rxBuf_slot m (peer k c) (rev k) fn i hi, rev_peer]
      rfl))
  isplitr; · iapply (world_inv c (.asend k)) $$ Hw
  isplitr; · iapply (world_inv (peer k c) (.arecv (rev k))) $$ Hw
  isplitl [Hx]; · iexact Hx
  isplitl [Hc]; · iexact Hc
  isplitl [HO]; · iexact HO
  isplitl [HtS]; · iexact HtS
  isplitr; · iapply (world_reached c (.asend k)) $$ Hw
  isplitl [HtR]; · iexact HtR
  iapply (world_reached (peer k c) (.arecv (rev k))) $$ Hw

/-! ## The copies within a device -/

/-- The device's `w`, and what is left of it beside the block a copy reads. -/
def wAll (m : (ℓ : Loc nD τ sig) → Buf (Elt F) ℓ) (c : Dev nD) : sProp 𝕄 :=
  wW.view.loc (c : Thread nD τ) ↦{fullShare} m ((c : Thread nD τ).loc main_arg1)
/-- The weight buffer at contents `f`. -/
def wbufPts (c : Dev nD) (f : Buf (Elt F) (wbufW.view.loc (c : Thread nD τ))) : sProp 𝕄 :=
  wbufW.view.loc (c : Thread nD τ) ↦{fullShare} f
/-- A copy of the `j`-th block of `w` into slot `s` of the weight buffer, under way: at its wait, the buffer with the
    block in that slot, and `w`. -/
def WFlight (m : (ℓ : Loc nD τ sig) → Buf (Elt F) ℓ) (c : Dev nD) (j : Fin 4) (s : Fin 2) (f : Buf (Elt F) (wbufW.view.loc (c : Thread nD τ))) : sProp 𝕄 :=
  iprop(Transfers.Flight EC (c : Thread nD τ) (.dma loc1) () NW
      (iprop(((wbufM s).view.loc (c : Thread nD τ) ↦[Finset.univ]{fullShare} ((wbufM s).view.write (Elt F) f (wblk m c j) Finset.univ))
        ∗ ((wM c j).view.loc (c : Thread nD τ) ↦[(wM c j).view.set]{fullShare} m ((c : Thread nD τ).loc main_arg1))))
    ∗ ((wM c j).view.loc (c : Thread nD τ) ↦[Finset.univ \ (wM c j).view.set]{fullShare} m ((c : Thread nD τ).loc main_arg1)))

/-- The copy starts. -/
theorem step_wcopy (c : Dev nD) (j : Fin 4) (s : Fin 2) (f : Buf (Elt F) (wbufW.view.loc (c : Thread nD τ)))
    {hsrc : (wM c j).view.WordExact} {hdst : (wbufM s).view.WordExact}
    {hsem : DmaTarget.Typed (nD := nD) (τ := τ) .hbm (.dma loc1) (.here (p := (c : Thread nD τ).2) (wbufM s))}
    {α : Type} {Q : α → sProp 𝕄} {kt : PUnit → Prog (TpuEff nD τ sig (Elt F) Λ₀ .tc) α} :
    iprop(wAll m c ∗ wbufPts c f ∗ semVal ((c : Thread nD τ), .dma loc1) 0)
      ⊢ iprop((WFlight m c j s f -∗ WP c (kt ⟨⟩) Q)
          -∗ WP c (.op (.enqueueDma (wM c j) (.here (wbufM s)) (.dma loc1) hsrc hdst hsem) kt) Q) := by
  unfold WFlight wAll wbufPts
  iintro ⟨Hw, Hb, Hv⟩ Hk
  ihave Hw2 := (pointsTo_split_subset (Finset.subset_univ (wM c j).view.set)).1 $$ Hw
  icases Hw2 with ⟨Hw, Hrest⟩
  iapply (Transfers.wp_dmaLocal EC 𝒱₀ (c : Thread nD τ) none (src := wM c j) (dst := wbufM s) (sm := .dma loc1) (Sd := Finset.univ) (fd := f) () NW (wbufM_credit s) NW_pos (Finset.subset_univ _)) $$ [Hw Hb Hv]
  · isplitl [Hw]; · iexact Hw
    isplitl [Hb]; · iexact Hb
    iexact Hv
  iintro Hf
  iapply Hk
  isplitl [Hf]; · iexact Hf
  iexact Hrest

/-- Its wait. -/
theorem step_wwait (c : Dev nD) (j : Fin 4) (s : Fin 2) (f : Buf (Elt F) (wbufW.view.loc (c : Thread nD τ)))
    {src : Memref sig .tc .hbm S1024x2048 .f32} {hsrc : src.view.WordExact} {hdst : (wbufM s).view.WordExact}
    {α : Type} {Q : α → sProp 𝕄} {kt : PUnit → Prog (TpuEff nD τ sig (Elt F) Λ₀ .tc) α}
    {O : CellTallies nD τ sig Unit} (hO : Above 0 O) {W : Waits sig Unit} :
    iprop(world m K ∗ owes (c : Thread nD τ) O W ∗ WFlight m c j s f)
      ⊢ iprop((iprop(owes (c : Thread nD τ) O (insert (SemLoc.dma loc1, ()) W) ∗ semVal ((c : Thread nD τ), .dma loc1) 0 ∗ wAll m c
            ∗ wbufPts c ((wbufM s).view.write (Elt F) f (wblk m c j) Finset.univ)) -∗ WP c (kt ⟨⟩) Q)
          -∗ WP c (.op (.waitDma2 loc1 src (wbufM s) hsrc hdst) kt) Q) := by
  unfold WFlight wAll wbufPts
  iintro ⟨#Hw, HO, Hf, Hrest⟩ Hk
  iapply (Transfers.wp_waitLocalO EC 𝒱₀ (c : Thread nD τ) none () (wbufM_credit s)) $$ [HO Hf]
  · isplitl [Hf]; · iexact Hf
    isplitl [HO]; · iexact HO
    iapply (world_mayWait c (.dma loc1) O (by rw [show rlv (cls (.dma loc1)) = 0 by decide +kernel]; exact hO)) $$ Hw
  iintro ⟨⟨Hb, Hx⟩, Hv, HO⟩
  iapply Hk
  isplitl [HO]; · iexact HO
  isplitl [Hv]; · iexact Hv
  isplitl [Hx Hrest]
  · iapply (pointsTo_split_subset (Finset.subset_univ (wM c j).view.set)).2
    isplitl [Hx]; · iexact Hx
    iexact Hrest
  iexact Hb

/-- The copy of the device's own block of `x` into slot 3 of the receive buffer, under way. -/
def XFlight (m : (ℓ : Loc nD τ sig) → Buf (Elt F) ℓ) (c : Dev nD) : sProp 𝕄 :=
  Transfers.Flight EC (c : Thread nD τ) (.dma loc0) () N (iprop(commPts c 3 (commBuf m c) ∗ xPts m c 3))

/-- A local copy's flight delivers what its delivery entails. -/
theorem step_xcopy (c : Dev nD) (f : Buf (Elt F) (commW.view.loc (c : Thread nD τ)))
    {hsrc : (xM c 3).view.WordExact} {hdst : (commM 3).view.WordExact}
    {hsem : DmaTarget.Typed (nD := nD) (τ := τ) .hbm (.dma loc0) (.here (p := (c : Thread nD τ).2) (commM 3))}
    {α : Type} {Q : α → sProp 𝕄} {kt : PUnit → Prog (TpuEff nD τ sig (Elt F) Λ₀ .tc) α} :
    iprop(xPts m c 3 ∗ commPts c 3 f ∗ semVal ((c : Thread nD τ), .dma loc0) 0)
      ⊢ iprop((XFlight m c -∗ WP c (kt ⟨⟩) Q)
          -∗ WP c (.op (.enqueueDma (xM c 3) (.here (commM 3)) (.dma loc0) hsrc hdst hsem) kt) Q) := by
  have hcongr : ((commM 3).view.loc (c : Thread nD τ) ↦[(commM 3).view.set]{fullShare} ((commM 3).view.write (Elt F) f ((ReadAs.same : ReadAs (Elt F) _ _ _ _).apply ((xM c 3).view.read (Elt F) (m ((c : Thread nD τ).loc main_arg0)))) Finset.univ) : sProp 𝕄)
      = ((commM 3).view.loc (c : Thread nD τ) ↦[(commM 3).view.set]{fullShare} commBuf m c) :=
    pointsTo_congr fun i hi => commBuf_slot m c 3 f i hi
  unfold XFlight xPts commPts
  rw [← hcongr]
  iintro ⟨Hx, Hb, Hv⟩
  iapply (Transfers.wp_dmaLocal EC 𝒱₀ (c : Thread nD τ) none (src := xM c 3) (dst := commM 3) (sm := .dma loc0) (Sd := (commM 3).view.set) (fd := f) () N (commM_credit 3) N_pos subset_rfl)
  isplitl [Hx]; · iexact Hx
  isplitl [Hb]; · iexact Hb
  iexact Hv

/-- Its wait. -/
theorem step_xwait (c : Dev nD)
    {src : Memref sig .tc .hbm S1024x1024 .f32} {hsrc : src.view.WordExact} {hdst : (commM 3).view.WordExact}
    {α : Type} {Q : α → sProp 𝕄} {kt : PUnit → Prog (TpuEff nD τ sig (Elt F) Λ₀ .tc) α}
    {O : CellTallies nD τ sig Unit} (hO : Above 0 O) {W : Waits sig Unit} :
    iprop(world m K ∗ owes (c : Thread nD τ) O W ∗ XFlight m c)
      ⊢ iprop((iprop(owes (c : Thread nD τ) O (insert (SemLoc.dma loc0, ()) W) ∗ semVal ((c : Thread nD τ), .dma loc0) 0
            ∗ commPts c 3 (commBuf m c) ∗ xPts m c 3) -∗ WP c (kt ⟨⟩) Q)
          -∗ WP c (.op (.waitDma2 loc0 src (commM 3) hsrc hdst) kt) Q) := by
  unfold XFlight
  iintro ⟨#Hw, HO, Hf⟩ Hk
  iapply (Transfers.wp_waitLocalO EC 𝒱₀ (c : Thread nD τ) none () (commM_credit 3)) $$ [HO Hf]
  · isplitl [Hf]; · iexact Hf
    isplitl [HO]; · iexact HO
    iapply (world_mayWait c (.dma loc0) O (by rw [show rlv (cls (.dma loc0)) = 0 by decide +kernel]; exact hO)) $$ Hw
  iintro ⟨⟨Hb, Hx⟩, Hv, HO⟩
  iapply Hk
  isplitl [HO]; · iexact HO
  isplitl [Hv]; · iexact Hv
  isplitl [Hb]; · iexact Hb
  iexact Hx

end Cert.KernelIdeal.Ring

end
-- ==== Proof.KI.Parts.lean ====
/-
# Whole buffers and their parts; loads and stores

How the buffers are cut into what the operations take — `x` into the four blocks the copies read, the receive buffers
into their slots, the register of the maximum into three shares — and put back together; and the kernel's loads and
stores.
-/
module

public import proofs.«01_k».proof.Proof.KI.Steps
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-! ## `x` and the register of the maximum under their readers' shares -/

/-- The device's `x`. -/
def xAll (c : Dev nD) : sProp 𝕄 := xW.view.loc (c : Thread nD τ) ↦{fullShare} m ((c : Thread nD τ).loc main_arg0)
/-- What a copy's share of `x` holds beside the block the copy reads. -/
def xRest (c : Dev nD) (k : Fin 4) : sProp 𝕄 :=
  (xM c k).view.loc (c : Thread nD τ) ↦[Finset.univ \ (xM c k).view.set]{xq k} m ((c : Thread nD τ).loc main_arg0)

/-- A share of `x` is the block a copy reads and the rest. -/
theorem x_cut (c : Dev nD) (k : Fin 4) :
    (xW.view.loc (c : Thread nD τ) ↦{xq k} m ((c : Thread nD τ).loc main_arg0) : sProp 𝕄) ⊣⊢ iprop(xPts m c k ∗ xRest m c k) :=
  pointsTo_split_subset (Finset.subset_univ (xM c k).view.set)

/-- A buffer held whole is held under four shares. -/
theorem share_four {ℓ : Loc nD τ sig} (f : Buf (Elt F) ℓ) :
    (ℓ ↦{fullShare} f : sProp 𝕄) ⊣⊢ iprop(((ℓ ↦{xq 0} f) ∗ (ℓ ↦{xq 1} f)) ∗ (ℓ ↦{xq 2} f) ∗ (ℓ ↦{xq 3} f)) :=
  (pointsTo_share (PosShare.mem_left_op_right fullShare)).trans
    (sep_congr (pointsTo_share (PosShare.mem_left_op_right fullShare.left)) (pointsTo_share (PosShare.mem_left_op_right fullShare.right)))

theorem x_split (c : Dev nD) : xAll m c ⊢ iprop((xPts m c 0 ∗ xRest m c 0) ∗ (xPts m c 1 ∗ xRest m c 1) ∗ (xPts m c 2 ∗ xRest m c 2) ∗ (xPts m c 3 ∗ xRest m c 3)) := by
  unfold xAll
  iintro H
  ihave H2 := (share_four _).1 $$ H
  icases H2 with ⟨⟨H0, H1⟩, H2, H3⟩
  isplitl [H0]; · iapply (x_cut m c 0).1 $$ H0
  isplitl [H1]; · iapply (x_cut m c 1).1 $$ H1
  isplitl [H2]; · iapply (x_cut m c 2).1 $$ H2
  iapply (x_cut m c 3).1 $$ H3
theorem x_join (c : Dev nD) : iprop((xPts m c 0 ∗ xRest m c 0) ∗ (xPts m c 1 ∗ xRest m c 1) ∗ (xPts m c 2 ∗ xRest m c 2) ∗ (xPts m c 3 ∗ xRest m c 3)) ⊢ xAll m c := by
  unfold xAll
  iintro ⟨H0, H1, H2, H3⟩
  iapply (share_four _).2
  isplitl [H0 H1]
  · isplitl [H0]
    · iapply (x_cut m c 0).2 $$ H0
    · iapply (x_cut m c 1).2 $$ H1
  isplitl [H2]
  · iapply (x_cut m c 2).2 $$ H2
  · iapply (x_cut m c 3).2 $$ H3

/-- The register of the maximum at contents `f`. -/
def txAll (c : Dev nD) (f : Buf (Elt F) (txW.view.loc (c : Thread nD τ))) : sProp 𝕄 := txW.view.loc (c : Thread nD τ) ↦{fullShare} f
theorem tx_share (c : Dev nD) : txAll c (txv m c) ⊣⊢ iprop(txPts m c 0 ∗ txPts m c 1 ∗ txPts m c 2) := by
  unfold txAll txPts
  rw [show txW.view.set = Finset.univ from View.set_whole _]
  exact (pointsTo_share (PosShare.mem_left_op_right fullShare)).trans (sep_congr .rfl (pointsTo_share (PosShare.mem_left_op_right fullShare.right)))

/-! ## The receive buffers and their slots -/

def commAll (c : Dev nD) (f : Buf (Elt F) (commW.view.loc (c : Thread nD τ))) : sProp 𝕄 := commW.view.loc (c : Thread nD τ) ↦{fullShare} f
def rxAll (c : Dev nD) (f : Buf (Elt F) (rxW.view.loc (c : Thread nD τ))) : sProp 𝕄 := rxW.view.loc (c : Thread nD τ) ↦{fullShare} f

theorem comm_slots (c : Dev nD) (f : Buf (Elt F) (commW.view.loc (c : Thread nD τ))) :
    commAll c f = iprop(commPts c 0 f ∗ commPts c 1 f ∗ commPts c 2 f ∗ commPts c 3 f) :=
  (Ring.pointsTo_blocks (ℓ := commW.view.loc (c : Thread nD τ)) commS commS_disjoint commS_cover f).trans (bigSep_four _)
theorem rx_slots (c : Dev nD) (f : Buf (Elt F) (rxW.view.loc (c : Thread nD τ))) :
    rxAll c f = iprop(rxPts c 0 f ∗ rxPts c 1 f ∗ rxPts c 2 f) :=
  (Ring.pointsTo_blocks (ℓ := rxW.view.loc (c : Thread nD τ)) rxS rxS_disjoint rxS_cover f).trans (bigSep_three _)

/-! ## Loads and stores -/

variable {m}

theorem zero2 : (![0, 0] : Fin 2 → Nat) = fun _ => 0 := funext fun a => by fin_cases a <;> rfl
theorem zero3 : (![0, 0, 0] : Fin 3 → Nat) = fun _ => 0 := funext fun a => by fin_cases a <;> rfl

/-- The staging buffer of the result at contents `f`. -/
def outPts (c : Dev nD) (f : Buf (Elt F) (oW.view.loc (c : Thread nD τ))) : sProp 𝕄 := oW.view.loc (c : Thread nD τ) ↦{fullShare} f

abbrev oR : Rect S1024x2048 := Rect.unit (s := S1024x2048) ![0, 0] S1024x2048.size inb_S1024x2048_S1024x2048_0_0
abbrev tR : Rect S8x128 := Rect.unit (s := S8x128) ![0, 0] S8x128.size inb_S8x128_S8x128_0_0
abbrev rxWR : Rect S3x8x128 := Rect.unit (s := S3x8x128) ![0, 0, 0] S3x8x128.size inb_S3x8x128_S3x8x128_0_0_0

/-- A load of a filled slot of the receive buffer. -/
theorem step_load_comm (c : Dev nD) (j : Fin 4) {hl : commW.view.LoadsAt (commR j).toLoadRect} {α : Type} {Q : α → sProp 𝕄}
    {kt : Vec F S1x1024x1024 .f32 → Prog (TpuEff nD τ sig (Elt F) Λ₀ .tc) α} :
    commPts c j (commBuf m c) ⊢ iprop((commPts c j (commBuf m c) -∗ WP c (kt (lift squeezes_S1x1024x1024_S1024x1024 (slotv m c j))) Q)
      -∗ WP c (.op (.load commW (commR j).toLoadRect hl) kt) Q) := by
  rw [← read_comm m c j]
  exact wp_load 𝒱₀ (c : Thread nD τ) none Set.univ (m := commW) (r := (commR j).toLoadRect) (hl := hl) (k := kt) (f := commBuf m c) (S := (commM j).view.set)
    (by rw [comm_loadSet])

/-- A load of a slot of the weight buffer a copy has filled. -/
theorem step_load_wbuf (c : Dev nD) (j : Fin 4) (s : Fin 2) (f : Buf (Elt F) (wbufW.view.loc (c : Thread nD τ)))
    {hl : wbufW.view.LoadsAt (wbufR s).toLoadRect} {α : Type} {Q : α → sProp 𝕄}
    {kt : Vec F S1x1024x2048 .f32 → Prog (TpuEff nD τ sig (Elt F) Λ₀ .tc) α} :
    wbufPts c ((wbufM s).view.write (Elt F) f (wblk m c j) Finset.univ)
      ⊢ iprop((wbufPts c ((wbufM s).view.write (Elt F) f (wblk m c j) Finset.univ) -∗ WP c (kt (lift squeezes_S1x1024x2048_S1024x2048 (wblk m c j))) Q)
      -∗ WP c (.op (.load wbufW (wbufR s).toLoadRect hl) kt) Q) := by
  have h : wbufW.view.readAt (Elt F) (wbufR s).toLoadRect ((wbufM s).view.write (Elt F) f (wblk m c j) Finset.univ)
      = lift squeezes_S1x1024x2048_S1024x2048 (wblk m c j) :=
    readAt_slot wbufW (wbufR s) (fun _ => rfl) squeezes_S1x1024x2048_S1024x2048 f (wblk m c j)
  rw [← h]
  exact wp_load 𝒱₀ (c : Thread nD τ) none Set.univ (m := wbufW) (r := (wbufR s).toLoadRect) (hl := hl) (k := kt)
    (f := (wbufM s).view.write (Elt F) f (wblk m c j) Finset.univ) (S := Finset.univ) (Finset.subset_univ _)

/-- A load of the whole result buffer. -/
theorem step_load_out (c : Dev nD) (f : Vec F S1024x2048 .f32) {hl : oW.view.LoadsAt oR.toLoadRect} {α : Type} {Q : α → sProp 𝕄}
    {kt : Vec F S1024x2048 .f32 → Prog (TpuEff nD τ sig (Elt F) Λ₀ .tc) α} :
    outPts c f ⊢ iprop((outPts c f -∗ WP c (kt f) Q) -∗ WP c (.op (.load oW oR.toLoadRect hl) kt) Q) :=
  have h : oW.view.readAt (Elt F) oR.toLoadRect f = f := Memref.readAt_unit_zero (Elt F) cc0_stg0_0 zero2 _ f
  BIBase.Entails.trans (wp_load 𝒱₀ (c : Thread nD τ) none Set.univ (m := oW) (r := oR.toLoadRect) (hl := hl) (k := kt) (f := f) (S := Finset.univ) (Finset.subset_univ _))
    (by rw [h]; exact BI.Entails.refl _)

/-- A load of the whole register of the maximum. -/
theorem step_load_tx (c : Dev nD) (f : Vec F S8x128 .f32) {hl : txW.view.LoadsAt tR.toLoadRect} {α : Type} {Q : α → sProp 𝕄}
    {kt : Vec F S8x128 .f32 → Prog (TpuEff nD τ sig (Elt F) Λ₀ .tc) α} :
    txAll c f ⊢ iprop((txAll c f -∗ WP c (kt f) Q) -∗ WP c (.op (.load txW tR.toLoadRect hl) kt) Q) :=
  have h : txW.view.readAt (Elt F) tR.toLoadRect f = f := Memref.readAt_unit_zero (Elt F) cc0_scratch2 zero2 _ f
  BIBase.Entails.trans (wp_load 𝒱₀ (c : Thread nD τ) none Set.univ (m := txW) (r := tR.toLoadRect) (hl := hl) (k := kt) (f := f) (S := Finset.univ) (Finset.subset_univ _))
    (by rw [h]; exact BI.Entails.refl _)

/-- A load of all received maxima. -/
theorem step_load_rx (c : Dev nD) (f : Vec F S3x8x128 .f32) {hl : rxW.view.LoadsAt rxWR.toLoadRect} {α : Type} {Q : α → sProp 𝕄}
    {kt : Vec F S3x8x128 .f32 → Prog (TpuEff nD τ sig (Elt F) Λ₀ .tc) α} :
    rxAll c f ⊢ iprop((rxAll c f -∗ WP c (kt f) Q) -∗ WP c (.op (.load rxW rxWR.toLoadRect hl) kt) Q) :=
  have h : rxW.view.readAt (Elt F) rxWR.toLoadRect f = f := Memref.readAt_unit_zero (Elt F) cc0_scratch3 zero3 _ f
  BIBase.Entails.trans (wp_load 𝒱₀ (c : Thread nD τ) none Set.univ (m := rxW) (r := rxWR.toLoadRect) (hl := hl) (k := kt) (f := f) (S := Finset.univ) (Finset.subset_univ _))
    (by rw [h]; exact BI.Entails.refl _)

/-- A store over the whole result buffer. -/
theorem step_store_out (c : Dev nD) (f : Buf (Elt F) (oW.view.loc (c : Thread nD τ))) (w : Vec F S1024x2048 .f32)
    {hx : (oW.access oR).Stores Finset.univ} {hm : (Finset.univ : Finset oR.shape.Idx) = Finset.univ ∨ ∀ a, oR.stride a = 1} {α : Type} {Q : α → sProp 𝕄}
    {kt : PUnit → Prog (TpuEff nD τ sig (Elt F) Λ₀ .tc) α} :
    outPts c f ⊢ iprop((outPts c w -∗ WP c (kt ⟨⟩) Q) -∗ WP c (.op (.store oW oR w Finset.univ hx hm) kt) Q) :=
  have h : (oW.access oR : View sig .tc _ _ _).write (Elt F) f w Finset.univ = w := Memref.write_access_unit_zero_univ (Elt F) cc0_stg0_0 zero2 _ f w
  BIBase.Entails.trans (wp_store 𝒱₀ (c : Thread nD τ) none Set.univ (m := oW) (r := oR) (w := w) (Mk := Finset.univ) (hx := hx) (hm := hm) (k := kt) (f := f) (S := Finset.univ) (Finset.subset_univ _))
    (by rw [h]; exact BI.Entails.refl _)

/-- A store over the whole register of the maximum. -/
theorem step_store_tx (c : Dev nD) (f : Buf (Elt F) (txW.view.loc (c : Thread nD τ))) (w : Vec F S8x128 .f32)
    {hx : (txW.access tR).Stores Finset.univ} {hm : (Finset.univ : Finset tR.shape.Idx) = Finset.univ ∨ ∀ a, tR.stride a = 1} {α : Type} {Q : α → sProp 𝕄}
    {kt : PUnit → Prog (TpuEff nD τ sig (Elt F) Λ₀ .tc) α} :
    txAll c f ⊢ iprop((txAll c w -∗ WP c (kt ⟨⟩) Q) -∗ WP c (.op (.store txW tR w Finset.univ hx hm) kt) Q) :=
  have h : (txW.access tR : View sig .tc _ _ _).write (Elt F) f w Finset.univ = w := Memref.write_access_unit_zero_univ (Elt F) cc0_scratch2 zero2 _ f w
  BIBase.Entails.trans (wp_store 𝒱₀ (c : Thread nD τ) none Set.univ (m := txW) (r := tR) (w := w) (Mk := Finset.univ) (hx := hx) (hm := hm) (k := kt) (f := f) (S := Finset.univ) (Finset.subset_univ _))
    (by rw [h]; exact BI.Entails.refl _)

/-- What a wait on a send credits: the block and the register are as large as their slots. -/
theorem xM_credit (c : Dev nD) (k : Fin 4) : (xM c k).view.dmaCredit = N := by unfold N; rfl
theorem txW_credit : txW.view.dmaCredit = NA := by unfold NA; rfl

end Cert.KernelIdeal.Ring

end
-- ==== Proof.KI.Body.lean ====
/-
# The kernel's body on one device

The body run from what the launch deals a device to what it leaves: one rule per operation, in the program's order.
-/
module

public import proofs.«01_k».proof.Proof.KI.Parts

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_roles (Φ : Role → sProp 𝕄) :
    bigSep Finset.univ Φ = iprop(Φ .bar ∗ Φ (.send 0) ∗ Φ (.send 1) ∗ Φ (.send 2) ∗ Φ (.recv 0) ∗ Φ (.recv 1) ∗ Φ (.recv 2)
      ∗ Φ (.asend 0) ∗ Φ (.asend 1) ∗ Φ (.asend 2) ∗ Φ (.arecv 0) ∗ Φ (.arecv 1) ∗ Φ (.arecv 2)) :=
  bigSep_univ_eq_bigSepL roles (Finset.ext fun r => ⟨fun _ => List.mem_toFinset.mpr (mem_roles r), fun _ => Finset.mem_univ r⟩) roles_nodup Φ

/-- The device's positions at round 0 of its cells; its cells' counters at zero. -/
def poss (c : Dev nD) : sProp 𝕄 := bigSep Finset.univ fun r : Role => atPos ER (cell c r) 0 ∅ 0
def closed (c : Dev nD) : sProp 𝕄 := bigSep Finset.univ fun r : Role => semVal (cell c r) 0

/-- The tokens of the five duties the device pays in its `k`-th direction. -/
def tok (c : Dev nD) (k : Fin 3) : sProp 𝕄 :=
  iprop(dutyTok ER (cell (peer k c) .bar) 0 (rev k) ∗ dutyTok ER (cell c (.send k)) 0 0 ∗ dutyTok ER (cell (peer k c) (.recv (rev k))) 0 0
    ∗ dutyTok ER (cell c (.asend k)) 0 0 ∗ dutyTok ER (cell (peer k c) (.arecv (rev k))) 0 0)
def toks (c : Dev nD) : sProp 𝕄 := bigSep Finset.univ (tok (F := F) c)

/-- The credits the device's peers' raises owe it. -/
def creds (c : Dev nD) : sProp 𝕄 :=
  iprop(cred (tallyAt (cell c .bar) () 3)
    ∗ bigSep Finset.univ fun j : Fin 3 => iprop(cred (tallyAt (cell c (.recv j)) () N) ∗ cred (tallyAt (cell c (.arecv j)) () NA)))

/-- The two local copies' counters at zero. -/
def locals (c : Dev nD) : sProp 𝕄 := iprop(semVal ((c : Thread nD τ), .dma loc0) 0 ∗ semVal ((c : Thread nD τ), .dma loc1) 0)
/-- The scratch buffers at some contents. -/
def scratch (c : Dev nD) : sProp 𝕄 := iprop((∃ f, commAll c f) ∗ (∃ f, wbufPts c f) ∗ (∃ f, txAll c f) ∗ (∃ f, rxAll c f))

/-- What the launch deals a device. -/
def ghost (K : Dev nD × Role → ℕ) (c : Dev nD) : sProp 𝕄 := iprop(bigSep Finset.univ (known m K) ∗ poss c ∗ toks c)
def start (c : Dev nD) : sProp 𝕄 := iprop((∃ K, ghost m K c) ∗ creds c ∗ levAts L lv ∗ xAll m c ∗ wAll m c)

/-- Before the body: that, the scratch buffers and the local copies' counters. -/
def Φ₀ (c : Dev nD) : sProp 𝕄 := iprop(start m c ∗ locals c ∗ scratch c)
/-- After it: every counter at zero, the arguments as they were, the scratch buffers. -/
def Φ₁ (c : Dev nD) : sProp 𝕄 := iprop(closed c ∗ xAll m c ∗ wAll m c ∗ locals c ∗ scratch c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, and what it ends at. -/
def bodyPre (K : Dev nD × Role → ℕ) (c : Dev nD) (W : Waits sig Unit) : sProp 𝕄 :=
  iprop(world m K ∗ owes (c : Thread nD τ) (O₀ c) W ∗ poss c ∗ toks c ∗ creds c ∗ xAll m c ∗ wAll m c ∗ locals c ∗ scratch c ∗ (∃ f, outPts c f))
def bodyPost (c : Dev nD) : sProp 𝕄 := iprop(Φ₁ m c ∗ (∃ W, owes (c : Thread nD τ) 0 W) ∗ outPts c (outAt m c))

set_option maxHeartbeats 4000000 in
set_option maxRecDepth 65536 in
/-- The body runs from the one to the other. -/
theorem sound_body (K : Dev nD × Role → ℕ) (c : Dev nD) (W : Waits sig Unit) (Kt : PUnit → sProp 𝕄) :
    iprop(bodyPre m K c W ∗ (bodyPost m c -∗ Kt ⟨⟩))
      ⊢ WP c (cc0_body (Memref.whole main_arg0) (Memref.isWhole_whole _) (Memref.whole main_arg1) (Memref.isWhole_whole _)
          (Memref.whole cc0_stg0_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyPre poss toks creds locals scratch
  rw [bigSep_roles, bigSep_three, bigSep_three]
  unfold tok
  iintro ⟨⟨#Hw, HO, ⟨Pb, PS0, PS1, PS2, PR0, PR1, PR2, PAS0, PAS1, PAS2, PAR0, PAR1, PAR2⟩,
    ⟨⟨TB0, TS0, TR0, TAS0, TAR0⟩, ⟨TB1, TS1, TR1, TAS1, TAR1⟩, ⟨TB2, TS2, TR2, TAS2, TAR2⟩⟩,
    ⟨CB, ⟨CR0, CAR0⟩, ⟨CR1, CAR1⟩, ⟨CR2, CAR2⟩⟩, Hx, Hwm, ⟨Hl0, Hl1⟩, ⟨⟨%fc, Hcomm⟩, ⟨%fb, Hwb⟩, ⟨%ft, Htx⟩, ⟨%fr, Hrx⟩⟩, ⟨%fo, Hout⟩⟩, Hk⟩
  ihave Hc := (Entails.of_eq (comm_slots c fc)) $$ Hcomm
  icases Hc with ⟨C0, C1, C2, C3⟩
  ihave Hr := (Entails.of_eq (rx_slots c fr)) $$ Hrx
  icases Hr with ⟨R0, R1, R2⟩
  ihave Hx' := (x_split m c) $$ Hx
  icases Hx' with ⟨⟨X0, XR0⟩, ⟨X1, XR1⟩, ⟨X2, XR2⟩, X3, XR3⟩
  -- signal 1
  iapply (step_signal c 0 (dev1_eq c) rfl (OB2 c) rfl) $$ [HO TB0 C0 R0]
  · isplitr; · iexact Hw
    isplitl [HO]; · iexact HO
    isplitl [TB0]; · iexact TB0
    isplitl [C0]; · iexists _; iexact C0
    iexists _; iexact R0
  iintro HO
  -- signal 2
  iapply (step_signal c 1 (dev2_eq c) rfl (OB3 c) rfl) $$ [HO TB1 C1 R1]
  · isplitr; · iexact Hw
    isplitl [HO]; · iexact HO
    isplitl [TB1]; · iexact TB1
    isplitl [C1]; · iexists _; iexact C1
    iexists _; iexact R1
  iintro HO
  -- signal 3
  iapply (step_signal c 2 (dev3_eq c) rfl (OR1 c) rfl) $$ [HO TB2 C2 R2]
  · isplitr; · iexact Hw
    isplitl [HO]; · iexact HO
    isplitl [TB2]; · iexact TB2
    isplitl [C2]; · iexists _; iexact C2
    iexists _; iexact R2
  iintro HO
  -- the barrier
  iapply (step_barrier c rfl (above_OR1 c (by decide))) $$ [HO CB Pb]
  · isplitr; · iexact Hw
    isplitl [HO]; · iexact HO
    isplitl [CB]; · iexact CB
    iexact Pb
  iintro ⟨HO, Zb, HB0, HB1, HB2⟩
  unfold barPay
  icases HB0 with ⟨D0, E0⟩
  icases HB1 with ⟨D1, E1⟩
  icases HB2 with ⟨D2, E2⟩
  -- transfer 1 of a block
  iapply (step_send c 0 (dev4_eq c) (OR2 c) rfl) $$ [HO X0 D0 TS0 TR0]
  · isplitr; · iexact Hw
    isplitl [HO]; · iexact HO
    isplitl [X0]; · iexact X0
    isplitl [D0]; · iexact D0
    isplitl [TS0]; · iexact TS0
    iexact TR0
  iintro ⟨CS0, HO⟩
  -- transfer 2 of a block
  iapply (step_send c 1 (dev5_eq c) (OR3 c) rfl) $$ [HO X1 D1 TS1 TR1]
  · isplitr; · iexact Hw
    isplitl [HO]; · iexact HO
    isplitl [X1]; · iexact X1
    isplitl [D1]; · iexact D1
    isplitl [TS1]; · iexact TS1
    iexact TR1
  iintro ⟨CS1, HO⟩
  -- transfer 3 of a block
  iapply (step_send c 2 (dev6_eq c) (OA1 c) rfl) $$ [HO X2 D2 TS2 TR2]
  · isplitr; · iexact Hw
    isplitl [HO]; · iexact HO
    isplitl [X2]; · iexact X2
    isplitl [D2]; · iexact D2
    isplitl [TS2]; · iexact TS2
    iexact TR2
  iintro ⟨CS2, HO⟩
  -- the device's own blocks of x and w
  iapply (step_xcopy c fc) $$ [X3 C3 Hl0]
  · isplitl [X3]; · iexact X3
    isplitl [C3]; · iexact C3
    iexact Hl0
  iintro HF
  iapply (step_wcopy c 3 0 fb) $$ [Hwm Hwb Hl1]
  · isplitl [Hwm]; · iexact Hwm
    isplitl [Hwb]; · iexact Hwb
    iexact Hl1
  iintro HG
  iapply (step_xwait c (above_OA1 c (by decide))) $$ [HO HF]
  · isplitr; · iexact Hw
    isplitl [HO]; · iexact HO
    iexact HF
  iintro ⟨HO, Hl0, C3, X3⟩
  iapply (step_wwait c 3 0 fb (above_OA1 c (by decide))) $$ [HO HG]
  · isplitr; · iexact Hw
    isplitl [HO]; · iexact HO
    iexact HG
  iintro ⟨HO, Hl1, Hwm, Hwb⟩
  iapply (step_load_comm c 3) $$ C3; iintro C3
  iapply (step_load_wbuf c 3 0 _) $$ Hwb; iintro Hwb
  iapply (step_load_out c _) $$ Hout; iintro Hout
  iapply (step_store_out c _ (acc0 m c)) $$ Hout; iintro Hout
  iapply (step_wcopy c 0 1 _) $$ [Hwm Hwb Hl1]
  · isplitl [Hwm]; · iexact Hwm
    isplitl [Hwb]; · iexact Hwb
    iexact Hl1
  iintro HG
  iapply (step_wait c (.recv 0) rfl rfl (commM_credit 0) (above_OA1 c (by decide))) $$ [HO CR0 PR0]
  · isplitr; · iexact Hw
    isplitl [HO]; · iexact HO
    isplitl [CR0]; · iexact CR0
    iexact PR0
  iintro ⟨HO, ZR0, C0⟩
  ihave C0 := (Entails.of_eq (show pay m c (.recv 0) 0 = commPts c 0 (commBuf m c) from rfl)) $$ C0
  iapply (step_wwait c 0 1 _ (above_OA1 c (by decide))) $$ [HO HG]
  · isplitr; · iexact Hw
    isplitl [HO]; · iexact HO
    iexact HG
  iintro ⟨HO, Hl1, Hwm, Hwb⟩
  iapply (step_load_out c _) $$ Hout; iintro Hout
  iapply (step_load_comm c 0) $$ C0; iintro C0
  iapply (step_load_wbuf c 0 1 _) $$ Hwb; iintro Hwb
  iapply (step_load_out c _) $$ Hout; iintro Hout
  iapply (step_store_out c _ (acc1 m c)) $$ Hout; iintro Hout
  iapply (step_wcopy c 2 0 _) $$ [Hwm Hwb Hl1]
  · isplitl [Hwm]; · iexact Hwm
    isplitl [Hwb]; · iexact Hwb
    iexact Hl1
  iintro HG
  iapply (step_wait c (.recv 2) rfl rfl (commM_credit 2) (above_OA1 c (by decide))) $$ [HO CR2 PR2]
  · isplitr; · iexact Hw
    isplitl [HO]; · iexact HO
    isplitl [CR2]; · iexact CR2
    iexact PR2
  iintro ⟨HO, ZR2, C2⟩
  ihave C2 := (Entails.of_eq (show pay m c (.recv 2) 0 = commPts c 2 (commBuf m c) from rfl)) $$ C2
  iapply (step_wwait c 2 0 _ (above_OA1 c (by decide))) $$ [HO HG]
  · isplitr; · iexact Hw
    isplitl [HO]; · iexact HO
    iexact HG
  iintro ⟨HO, Hl1, Hwm, Hwb⟩
  iapply (step_load_out c _) $$ Hout; iintro Hout
  iapply (step_load_comm c 2) $$ C2; iintro C2
  iapply (step_load_wbuf c 2 0 _) $$ Hwb; iintro Hwb
  iapply (step_load_out c _) $$ Hout; iintro Hout
  iapply (step_store_out c _ (acc2 m c)) $$ Hout; iintro Hout
  iapply (step_wcopy c 1 1 _) $$ [Hwm Hwb Hl1]
  · isplitl [Hwm]; · iexact Hwm
    isplitl [Hwb]; · iexact Hwb
    iexact Hl1
  iintro HG
  iapply (step_wait c (.recv 1) rfl rfl (commM_credit 1) (above_OA1 c (by decide))) $$ [HO CR1 PR1]
  · isplitr; · iexact Hw
    isplitl [HO]; · iexact HO
    isplitl [CR1]; · iexact CR1
    iexact PR1
  iintro ⟨HO, ZR1, C1⟩
  ihave C1 := (Entails.of_eq (show pay m c (.recv 1) 0 = commPts c 1 (commBuf m c) from rfl)) $$ C1
  iapply (step_wwait c 1 1 _ (above_OA1 c (by decide))) $$ [HO HG]
  · isplitr; · iexact Hw
    isplitl [HO]; · iexact HO
    iexact HG
  iintro ⟨HO, Hl1, Hwm, Hwb⟩
  iapply (step_load_out c _) $$ Hout; iintro Hout
  iapply (step_load_comm c 1) $$ C1; iintro C1
  iapply (step_load_wbuf c 1 1 _) $$ Hwb; iintro Hwb
  iapply (step_load_out c _) $$ Hout; iintro Hout
  iapply (step_store_out c _ (acc3 m c)) $$ Hout; iintro Hout
  iapply (step_wait c (.send 0) rfl rfl (xM_credit c 0) (above_OA1 c (by decide))) $$ [HO CS0 PS0]
  · isplitr; · iexact Hw
    isplitl [HO]; · iexact HO
    isplitl [CS0]; · iexact CS0
    iexact PS0
  iintro ⟨HO, ZS0, X0⟩
  ihave X0 := (Entails.of_eq (show pay m c (.send 0) 0 = xPts m c 0 from rfl)) $$ X0
  iapply (step_wait c (.send 1) rfl rfl (xM_credit c 1) (above_OA1 c (by decide))) $$ [HO CS1 PS1]
  · isplitr; · iexact Hw
    isplitl [HO]; · iexact HO
    isplitl [CS1]; · iexact CS1
    iexact PS1
  iintro ⟨HO, ZS1, X1⟩
  ihave X1 := (Entails.of_eq (show pay m c (.send 1) 0 = xPts m c 1 from rfl)) $$ X1
  iapply (step_wait c (.send 2) rfl rfl (xM_credit c 2) (above_OA1 c (by decide))) $$ [HO CS2 PS2]
  · isplitr; · iexact Hw
    isplitl [HO]; · iexact HO
    isplitl [CS2]; · iexact CS2
    iexact PS2
  iintro ⟨HO, ZS2, X2⟩
  ihave X2 := (Entails.of_eq (show pay m c (.send 2) 0 = xPts m c 2 from rfl)) $$ X2
  iapply (step_load_out c _) $$ Hout; iintro Hout
  iapply (step_load_tx c _) $$ Htx; iintro Htx
  iapply (step_store_tx c _ (txv m c)) $$ Htx; iintro Htx
  ihave Ht := (tx_share m c).1 $$ Htx
  icases Ht with ⟨Y0, Y1, Y2⟩
  -- transfer 1 of the maximum
  iapply (step_asend c 0 (dev7_eq c) (OA2 c) rfl) $$ [HO Y0 E0 TAS0 TAR0]
  · isplitr; · iexact Hw
    isplitl [HO]; · iexact HO
    isplitl [Y0]; · iexact Y0
    isplitl [E0]; · iexact E0
    isplitl [TAS0]; · iexact TAS0
    iexact TAR0
  iintro ⟨CAS0, HO⟩
  -- transfer 2 of the maximum
  iapply (step_asend c 1 (dev8_eq c) (OA3 c) rfl) $$ [HO Y1 E1 TAS1 TAR1]
  · isplitr; · iexact Hw
    isplitl [HO]; · iexact HO
    isplitl [Y1]; · iexact Y1
    isplitl [E1]; · iexact E1
    isplitl [TAS1]; · iexact TAS1
    iexact TAR1
  iintro ⟨CAS1, HO⟩
  -- transfer 3 of the maximum
  iapply (step_asend c 2 (dev9_eq c) (0) (zero_add _).symm) $$ [HO Y2 E2 TAS2 TAR2]
  · isplitr; · iexact Hw
    isplitl [HO]; · iexact HO
    isplitl [Y2]; · iexact Y2
    isplitl [E2]; · iexact E2
    isplitl [TAS2]; · iexact TAS2
    iexact TAR2
  iintro ⟨CAS2, HO⟩
  iapply (step_wait c (.arecv 0) rfl rfl (rxM_credit 0) (above_zero _)) $$ [HO CAR0 PAR0]
  · isplitr; · iexact Hw
    isplitl [HO]; · iexact HO
    isplitl [CAR0]; · iexact CAR0
    iexact PAR0
  iintro ⟨HO, ZAR0, R0⟩
  ihave R0 := (Entails.of_eq (show pay m c (.arecv 0) 0 = rxPts c 0 (rxBuf m c) from rfl)) $$ R0
  iapply (step_wait c (.arecv 1) rfl rfl (rxM_credit 1) (above_zero _)) $$ [HO CAR1 PAR1]
  · isplitr; · iexact Hw
    isplitl [HO]; · iexact HO
    isplitl [CAR1]; · iexact CAR1
    iexact PAR1
  iintro ⟨HO, ZAR1, R1⟩
  ihave R1 := (Entails.of_eq (show pay m c (.arecv 1) 0 = rxPts c 1 (rxBuf m c) from rfl)) $$ R1
  iapply (step_wait c (.arecv 2) rfl rfl (rxM_credit 2) (above_zero _)) $$ [HO CAR2 PAR2]
  · isplitr; · iexact Hw
    isplitl [HO]; · iexact HO
    isplitl [CAR2]; · iexact CAR2
    iexact PAR2
  iintro ⟨HO, ZAR2, R2⟩
  ihave R2 := (Entails.of_eq (show pay m c (.arecv 2) 0 = rxPts c 2 (rxBuf m c) from rfl)) $$ R2
  ihave Hrx := (Entails.of_eq (rx_slots c (rxBuf m c)).symm) $$ [R0 R1 R2]
  · isplitl [R0]; · iexact R0
    isplitl [R1]; · iexact R1
    iexact R2
  iapply (step_load_rx c (rxBuf m c)) $$ Hrx; iintro Hrx
  iapply (step_load_out c _) $$ Hout; iintro Hout
  iapply (step_load_out c _) $$ Hout; iintro Hout
  iapply (step_store_out c _ (outAt m c)) $$ Hout; iintro Hout
  iapply (step_wait c (.asend 0) rfl rfl (txW_credit) (above_zero _)) $$ [HO CAS0 PAS0]
  · isplitr; · iexact Hw
    isplitl [HO]; · iexact HO
    isplitl [CAS0]; · iexact CAS0
    iexact PAS0
  iintro ⟨HO, ZAS0, Y0⟩
  ihave Y0 := (Entails.of_eq (show pay m c (.asend 0) 0 = txPts m c 0 from rfl)) $$ Y0
  iapply (step_wait c (.asend 1) rfl rfl (txW_credit) (above_zero _)) $$ [HO CAS1 PAS1]
  · isplitr; · iexact Hw
    isplitl [HO]; · iexact HO
    isplitl [CAS1]; · iexact CAS1
    iexact PAS1
  iintro ⟨HO, ZAS1, Y1⟩
  ihave Y1 := (Entails.of_eq (show pay m c (.asend 1) 0 = txPts m c 1 from rfl)) $$ Y1
  iapply (step_wait c (.asend 2) rfl rfl (txW_credit) (above_zero _)) $$ [HO CAS2 PAS2]
  · isplitr; · iexact Hw
    isplitl [HO]; · iexact HO
    isplitl [CAS2]; · iexact CAS2
    iexact PAS2
  iintro ⟨HO, ZAS2, Y2⟩
  ihave Y2 := (Entails.of_eq (show pay m c (.asend 2) 0 = txPts m c 2 from rfl)) $$ Y2
  unfold WP; rw [wp_ret]; imodintro
  iapply Hk
  unfold bodyPost Φ₁ closed locals scratch
  rw [bigSep_roles]
  isplitr [HO Hout]
  · isplitl [Zb ZS0 ZS1 ZS2 ZR0 ZR1 ZR2 ZAS0 ZAS1 ZAS2 ZAR0 ZAR1 ZAR2]
    · isplitl [Zb]; · iexact Zb
      isplitl [ZS0]; · iexact ZS0
      isplitl [ZS1]; · iexact ZS1
      isplitl [ZS2]; · iexact ZS2
      isplitl [ZR0]; · iexact ZR0
      isplitl [ZR1]; · iexact ZR1
      isplitl [ZR2]; · iexact ZR2
      isplitl [ZAS0]; · iexact ZAS0
      isplitl [ZAS1]; · iexact ZAS1
      isplitl [ZAS2]; · iexact ZAS2
      isplitl [ZAR0]; · iexact ZAR0
      isplitl [ZAR1]; · iexact ZAR1
      iexact ZAR2
    isplitl [X0 XR0 X1 XR1 X2 XR2 X3 XR3]
    · iapply (x_join m c)
      isplitl [X0 XR0]
      · isplitl [X0]; · iexact X0
        iexact XR0
      isplitl [X1 XR1]
      · isplitl [X1]; · iexact X1
        iexact XR1
      isplitl [X2 XR2]
      · isplitl [X2]; · iexact X2
        iexact XR2
      isplitl [X3]; · iexact X3
      iexact XR3
    isplitl [Hwm]; · iexact Hwm
    isplitl [Hl0 Hl1]
    · isplitl [Hl0]; · iexact Hl0
      iexact Hl1
    isplitl [C0 C1 C2 C3]
    · iexists (commBuf m c)
      iapply (Entails.of_eq (comm_slots c (commBuf m c)).symm)
      isplitl [C0]; · iexact C0
      isplitl [C1]; · iexact C1
      isplitl [C2]; · iexact C2
      iexact C3
    isplitl [Hwb]; · iexists _; iexact Hwb
    isplitl [Y0 Y1 Y2]
    · iexists (txv m c)
      iapply (tx_share m c).2
      isplitl [Y0]; · iexact Y0
      isplitl [Y1]; · iexact Y1
      iexact Y2
    iexists _; iexact Hrx
  isplitl [HO]; · iexists _; iexact HO
  iexact Hout

end Cert.KernelIdeal.Ring

end
-- ==== Proof.KI.Deal.lean ====
/-
# The deal at the launch

Every cell's round and every duty's token are made once, the tokens handed to the devices that pay them, the cells'
invariants made known to every device, and each device's credits read off what its peers owe it.
-/
module

public import proofs.«01_k».proof.Proof.KI.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem cell_injective : Function.Injective (fun p : Dev nD × Role => cell p.1 p.2) := by
  rintro ⟨c, r⟩ ⟨c', r'⟩ h
  have h1 : c = c' := congrArg (fun g : GSem nD τ sig => g.1.1) h
  have h2 : r = r' := csem_injective (congrArg Prod.snd h)
  rw [h1, h2]
theorem cell_eq_iff {c c' : Dev nD} {r r' : Role} : Iff (cell c r = cell c' r') (c = c' ∧ r = r') :=
  ⟨fun h => Prod.mk.inj (cell_injective (a₁ := (c, r)) (a₂ := (c', r')) h), fun h => by rw [h.1, h.2]⟩

/-- The kernel's cells: thirteen on each device. -/
def ringCells : Finset (GSem nD τ sig) := Finset.univ.map ⟨_, cell_injective⟩

/-- The five tokens of each direction of a device's own cells. -/
abbrev tokRole : Fin 5 → Fin 3 → Role × Fin 3 := fun
  | 0, k => (.bar, k) | 1, k => (.send k, 0) | 2, k => (.recv k, 0) | 3, k => (.asend k, 0) | 4, k => (.arecv k, 0)
theorem tokRole_injective : Function.Injective (fun p : Fin 3 × Fin 5 => tokRole p.2 p.1) := by decide
abbrev tokOf (p : (Dev nD × Fin 3) × Fin 5) : GSem nD τ sig × ℕ × Fin 3 := (cell p.1.1 (tokRole p.2 p.1.2).1, 0, (tokRole p.2 p.1.2).2)
theorem tokOf_injective : Function.Injective (tokOf : (Dev nD × Fin 3) × Fin 5 → GSem nD τ sig × ℕ × Fin 3) := by
  rintro ⟨⟨c, k⟩, i⟩ ⟨⟨c', k'⟩, i'⟩ h
  have h1 := cell_eq_iff.mp (congrArg Prod.fst h)
  have h2 : (tokRole i k).2 = (tokRole i' k').2 := congrArg (fun x : GSem nD τ sig × ℕ × Fin 3 => x.2.2) h
  have h3 := tokRole_injective (a₁ := (k, i)) (a₂ := (k', i')) (Prod.ext h1.2 h2)
  have h4 : c = c' := h1.1
  rw [h4, (Prod.mk.inj h3).1, (Prod.mk.inj h3).2]
def ringToks : Finset (GSem nD τ sig × ℕ × Fin 3) := Finset.univ.map ⟨tokOf, tokOf_injective⟩

/-- The tokens of a device's own cells in direction `k`. -/
def minted (p : Dev nD × Fin 3) : sProp 𝕄 :=
  iprop(dutyTok ER (cell p.1 .bar) 0 p.2 ∗ dutyTok ER (cell p.1 (.send p.2)) 0 0 ∗ dutyTok ER (cell p.1 (.recv p.2)) 0 0
    ∗ dutyTok ER (cell p.1 (.asend p.2)) 0 0 ∗ dutyTok ER (cell p.1 (.arecv p.2)) 0 0)

/-- The way back as a permutation of (device, direction). -/
def back : Dev nD × Fin 3 ≃ Dev nD × Fin 3 where
  toFun p := (peer p.2 p.1, rev p.2)
  invFun p := (peer p.2 p.1, rev p.2)
  left_inv p := Prod.ext (rev_peer p.2 p.1) (rev_rev p.2)
  right_inv p := Prod.ext (rev_peer p.2 p.1) (rev_rev p.2)

omit [FloatOps F] in
/-- The tokens, each handed to the device that pays its duty. -/
theorem toks_deal : (bigSep Finset.univ (minted (F := F)) : sProp 𝕄) ⊢ bigSep Finset.univ fun c : Dev nD => toks c := by
  rw [show (bigSep Finset.univ fun c : Dev nD => (toks (F := F) c)) = bigSep Finset.univ fun p : Dev nD × Fin 3 => tok (F := F) p.1 p.2 from
    (bigSep_univ_prod (fun p : Dev nD × Fin 3 => tok (F := F) p.1 p.2)).symm]
  unfold minted tok
  rw [bigSep_sep', bigSep_sep', bigSep_sep', bigSep_sep', bigSep_sep', bigSep_sep', bigSep_sep', bigSep_sep',
    bigSep_univ_equiv back (fun p : Dev nD × Fin 3 => (dutyTok ER (cell p.1 .bar) 0 p.2 : sProp 𝕄)),
    bigSep_univ_equiv back (fun p : Dev nD × Fin 3 => (dutyTok ER (cell p.1 (.recv p.2)) 0 0 : sProp 𝕄)),
    bigSep_univ_equiv back (fun p : Dev nD × Fin 3 => (dutyTok ER (cell p.1 (.arecv p.2)) 0 0 : sProp 𝕄))]
  exact BI.Entails.refl _

/-! ## What the launch element deals -/

/-- What a device is dealt: its cells' states, its positions, the marks, the tokens of its own cells. -/
def dealt (c : Dev nD) : sProp 𝕄 :=
  iprop((bigSep Finset.univ fun r : Role => roundState ER (rd m) (cell c r) 0) ∗ poss c
    ∗ (bigSep Finset.univ fun r : Role => reached ER (cell c r) 0) ∗ bigSep Finset.univ fun k : Fin 3 => minted (c, k))

def dealt' (c : Dev nD) : sProp 𝕄 := iprop((∃ K, ghost m K c) ∗ locals c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun r : Role => Φ (cell c r) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun k : Fin 3 => minted (c, k) := by
    unfold ringToks; rw [bigSep_map, bigSep_univ_prod, bigSep_univ_prod]
    exact bigSep_congr fun c _ => bigSep_congr fun k _ => by unfold minted; rw [bigSep_five]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt poss; simp only [bigSep_sep']
  isplitl [Hst']; · iexact Hst'
  isplitl [Hat']; · iexact Hat'
  isplitl [Hr']; · iexact Hr'
  iexact Htok'

/-! ## The semaphores -/

/-- The kernel's own semaphores: the transfers' twelve and the local copies' two. -/
abbrev osem : Fin 14 → SemLoc sig := fun
  | 0 => csem (.send 0) | 1 => csem (.send 1) | 2 => csem (.send 2) | 3 => csem (.recv 0) | 4 => csem (.recv 1) | 5 => csem (.recv 2)
  | 6 => csem (.asend 0) | 7 => csem (.asend 1) | 8 => csem (.asend 2) | 9 => csem (.arecv 0) | 10 => csem (.arecv 1) | 11 => csem (.arecv 2)
  | 12 => .dma loc0 | 13 => .dma loc1
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c (.send 0)) 0 ∗ semVal (cell c (.send 1)) 0 ∗ semVal (cell c (.send 2)) 0 ∗ semVal (cell c (.recv 0)) 0 ∗ semVal (cell c (.recv 1)) 0 ∗ semVal (cell c (.recv 2)) 0 ∗ semVal (cell c (.asend 0)) 0 ∗ semVal (cell c (.asend 1)) 0 ∗ semVal (cell c (.asend 2)) 0 ∗ semVal (cell c (.arecv 0)) 0 ∗ semVal (cell c (.arecv 1)) 0 ∗ semVal (cell c (.arecv 2)) 0 ∗ semVal ((c : Thread nD τ), .dma loc0) 0 ∗ semVal ((c : Thread nD τ), .dma loc1) 0) :=
  (Pipeline.ownSems0_eq_of_list c osem [0, 1, 2, 3, 4, 5, 6, 7, 8, 9, 10, 11, 12, 13] (by decide) (by decide)).trans rfl
omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- They and the barrier's are the cells' counters and the local copies' two. -/
theorem sems0_eq (c : Dev nD) :
    iprop(Pipeline.ownSems0 (Ix := Unit) (Name := ℕ) (U := UU) (Lvl := ℕ) (Val := Elt F) (τ := τ) osem c ∗ unscopedSems0 c)
      ⊢ (iprop(closed c ∗ locals c) : sProp 𝕄) := by
  rw [ownSems0_eq, unscopedSems0_eq]; unfold closed locals; rw [bigSep_roles]
  iintro ⟨⟨H0, H1, H2, H3, H4, H5, H6, H7, H8, H9, H10, H11, H12, H13⟩, HB⟩
  isplitr [H12 H13]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  iexact H13

/-- And back. -/
theorem sems0_back (c : Dev nD) :
    (iprop(closed c ∗ locals c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]; unfold closed locals; rw [bigSep_roles]
  iintro ⟨⟨HB, H0, H1, H2, H3, H4, H5, H6, H7, H8, H9, H10, H11⟩, H12, H13⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The global step -/

/-- What a device has once its cells' invariants are allocated. -/
def opened (c : Dev nD) : sProp 𝕄 :=
  iprop((bigSep Finset.univ fun r : Role => iprop(∃ κ : ℕ, cellInv ER (rd m) κ (cell c r)))
    ∗ (bigSep Finset.univ fun r : Role => reached ER (cell c r) 0) ∗ (poss c ∗ locals c) ∗ bigSep Finset.univ fun k : Fin 3 => minted (c, k))

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt opened
  iintro ⟨Hos, Hus, Hst, Hat, Hr, Htok⟩
  ihave Hv := (sems0_eq (F := F) c) $$ [Hos Hus]
  · isplitl [Hos] <;> iassumption
  icases Hv with ⟨Hv, Hl⟩
  imod (show iprop((bigSep Finset.univ fun r : Role => semVal (cell c r) 0) ∗ bigSep Finset.univ fun r : Role => roundState ER (rd m) (cell c r) 0)
      ⊢ (|={Set.univ}=> bigSep Finset.univ fun r => iprop(∃ κ : ℕ, cellInv ER (rd m) κ (cell c r)) : sProp 𝕄) from by
        rw [← bigSep_sep']
        exact (bigSep_mono fun r _ => (Rounds.body_intro ER (rd m) (cell c r)).trans inv_alloc).trans (bigSep_fupd _ _)) $$ [Hv Hst] with Hinv
  · unfold closed; isplitl [Hv] <;> iassumption
  imodintro
  isplitl [Hinv]; · iexact Hinv
  isplitl [Hr]; · iexact Hr
  isplitl [Hat Hl]
  · isplitl [Hat] <;> iassumption
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Role → ℕ) (c : Dev nD) :
    iprop(bigSep Finset.univ (known m K) ∗ (poss c ∗ locals c) ∗ toks c) ⊢ dealt' m c := by
  unfold dealt' ghost
  iintro ⟨HK, ⟨Hat, Hl⟩, Ht⟩
  isplitl [HK Hat Ht]
  · iexists K
    isplitl [HK]; · iexact HK
    isplitl [Hat]; · iexact Hat
    iexact Ht
  iexact Hl

theorem regroup : bigSep Finset.univ (opened m) ⊢ (bigSep Finset.univ (dealt' m) : sProp 𝕄) := by
  unfold opened
  rw [bigSep_sep', bigSep_sep', bigSep_sep', ← bigSep_univ_prod (fun p : Dev nD × Role => iprop(∃ κ : ℕ, cellInv ER (rd m) κ (cell p.1 p.2))),
    ← bigSep_univ_prod (fun p : Dev nD × Role => (reached ER (cell p.1 p.2) 0 : sProp 𝕄)), ← bigSep_univ_prod (fun p : Dev nD × Fin 3 => minted (F := F) p)]
  iintro ⟨HI, #HR, Hat, Htok⟩
  ihave HK := (BI.bigSep_exists_pi Finset.univ (fun (p : Dev nD × Role) (κ : ℕ) => (cellInv ER (rd m) κ (cell p.1 p.2) : sProp 𝕄))) $$ HI
  icases HK with ⟨%K, #HI⟩
  ihave Htk := (toks_deal (F := F)) $$ Htok
  iapply (bigSep_with_persistent (R := bigSep Finset.univ (known m K)) fun c _ => ghost_intro m K c)
  isplitr
  · unfold known; rw [bigSep_sep']
    isplitl; · iexact HI
    iexact HR
  · iapply (Entails.of_eq (bigSep_sep' Finset.univ (fun c : Dev nD => iprop(poss (F := F) c ∗ locals c)) toks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (dealt' m) :=
  ((bigSep_mono fun c _ => core_alloc m c).trans (bigSep_fupd _ _)).trans (BI.fupd_mono (regroup m))

/-! ## The credits -/

theorem peer_iff (k : Fin 3) (c d : Dev nD) : Iff (c = peer k d) (d = peer (rev k) c) := by revert k c d; decide

theorem tally_cell (k : Fin 3) (c d : Dev nD) (r r' : Role) (n : ℕ) :
    (tallyAt (cell (peer k d) r') () n : CellTallies nD τ sig Unit) (cell c r) () = if r = r' then (if d = peer (rev k) c then n else 0) else 0 := by
  rw [tallyAt_apply]
  by_cases hr : r = r'
  · rw [if_pos hr]
    by_cases h : d = peer (rev k) c
    · rw [if_pos h, if_pos ⟨cell_eq_iff.mpr ⟨(peer_iff k c d).mpr h, hr⟩, rfl⟩]
    · rw [if_neg h, if_neg fun h' => h ((peer_iff k c d).mp (cell_eq_iff.mp h'.1).1)]
  · rw [if_neg hr, if_neg fun h' => hr (cell_eq_iff.mp h'.1).2]

/-- All that device `d` owes a cell of device `c`. -/
theorem owed_cell (d c : Dev nD) (r : Role) : O₀ d (cell c r) ()
    = (if r = .arecv 0 then (if d = peer 0 c then NA else 0) else 0) + (if r = .arecv 1 then (if d = peer 1 c then NA else 0) else 0)
      + (if r = .arecv 2 then (if d = peer 2 c then NA else 0) else 0) + (if r = .recv 0 then (if d = peer 0 c then N else 0) else 0)
      + (if r = .recv 1 then (if d = peer 1 c then N else 0) else 0) + (if r = .recv 2 then (if d = peer 2 c then N else 0) else 0)
      + (if r = .bar then (if d = peer 0 c then 1 else 0) else 0) + (if r = .bar then (if d = peer 1 c then 1 else 0) else 0)
      + (if r = .bar then (if d = peer 2 c then 1 else 0) else 0) := by
  unfold O₀ OB2 OB3 OR1 OR2 OR3 OA1 OA2 OA3
  simp only [Pi.add_apply, Finsupp.add_apply]
  rw [tally_cell 2 c d r (.arecv _) NA, tally_cell 1 c d r (.arecv _) NA, tally_cell 0 c d r (.arecv _) NA, tally_cell 2 c d r (.recv _) N, tally_cell 1 c d r (.recv _) N, tally_cell 0 c d r (.recv _) N, tally_cell 2 c d r .bar 1, tally_cell 1 c d r .bar 1, tally_cell 0 c d r .bar 1]

/-- What device `d` owes each cell of device `c`. -/
theorem owed_bar (d c : Dev nD) : O₀ d (cell c .bar) () = (if d = peer 0 c then 1 else 0) + (if d = peer 1 c then 1 else 0) + (if d = peer 2 c then 1 else 0) := by
  rw [owed_cell]
  simp only [reduceCtorEq, if_false, if_true, Nat.zero_add]
theorem owed_recv (d c : Dev nD) (j : Fin 3) : O₀ d (cell c (.recv j)) () = if d = peer j c then N else 0 := by
  rw [owed_cell]
  fin_cases j <;> simp
theorem owed_arecv (d c : Dev nD) (j : Fin 3) : O₀ d (cell c (.arecv j)) () = if d = peer j c then NA else 0 := by
  rw [owed_cell]
  fin_cases j <;> simp

theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]
theorem launch_recv (c : Dev nD) (j : Fin 3) :
    tallyOn (cell c (.recv j)) (launchCredit (Pipeline.owing O₀) 0 (cell c (.recv j))) = (tallyAt (cell c (.recv j)) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => N, if_pos (Finset.mem_univ _)]
theorem launch_arecv (c : Dev nD) (j : Fin 3) :
    tallyOn (cell c (.arecv j)) (launchCredit (Pipeline.owing O₀) 0 (cell c (.arecv j))) = (tallyAt (cell c (.arecv j)) () NA : CellTallies nD τ sig Unit) := by
  unfold tallyAt; refine congrArg _ (Finsupp.ext fun u => ?_); cases u
  rw [Pipeline.launchCredit_owing, Finsupp.single_eq_same, Finset.sum_congr rfl fun d _ => owed_arecv d c j,
    Finset.sum_ite_eq' Finset.univ (peer j c) fun _ => NA, if_pos (Finset.mem_univ _)]

theorem creds_intro (c : Dev nD) : (Pipeline.launchCred O₀ c : sProp 𝕄) ⊢ creds c := by
  unfold Pipeline.launchCred
  refine BIBase.Entails.trans (bigSep_subset (Finset.subset_univ (Finset.univ.map ⟨csem, csem_injective⟩))) ?_
  rw [bigSep_map]
  unfold creds
  rw [bigSep_roles, bigSep_three]
  dsimp only [Function.Embedding.coeFn_mk]
  iintro ⟨HB, -, -, -, R0, R1, R2, -, -, -, A0, A1, A2⟩
  rw [← launch_bar, ← launch_recv, ← launch_recv, ← launch_recv, ← launch_arecv, ← launch_arecv, ← launch_arecv]
  isplitl [HB]; · iexact HB
  isplitl [R0 A0]
  · isplitl [R0]; · iexact R0
    iexact A0
  isplitl [R1 A1]
  · isplitl [R1]; · iexact R1
    iexact A1
  isplitl [R2]; · iexact R2
  iexact A2

end Cert.KernelIdeal.Ring

end
-- ==== Proof.KI.Run.lean ====
/-
# The run

The kernel on the four devices, from any memory: it ends, its result on each device is `outAt`, its arguments are as they
were, and every counter is at zero.
-/
module

public import proofs.«01_k».proof.Proof.KI.Deal
public import Idealize.ShloMosaic.Lib.Pipeline.CollectiveSegs
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

def bodyPre' (c : Dev nD) : sProp 𝕄 :=
  iprop(Φ₀ m c ∗ (dats m 0 c).owesAt () t0_0.castSucc ∗ (∃ d, stg c cc0_stg0_0 ((dats m 0 c).before (0 : Fin 1) t0_0 d)))
def bodyPost' (c : Dev nD) : sProp 𝕄 :=
  iprop(Φ₁ m c ∗ (dats m 0 c).owesAt () t0_0.succ ∗ stg c cc0_stg0_0 (outAt m c))

set_option maxRecDepth 8000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole main_arg1) (Memref.isWhole_whole _)
          (Memref.whole cc0_stg0_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8) (fun _ => bodyPost' m c)
  unfold bodyPre' Φ₀ start ghost
  iintro ⟨⟨⟨⟨%K, HK, Hat, Ht⟩, Hc, Hlev, Hx, Hw⟩, Hl, Hscr⟩, ⟨%W, -, HO⟩, ⟨%d, %f, -, Hout⟩⟩
  iapply (sound_body m K c W fun _ => bodyPost' m c)
  isplitr []
  · unfold bodyPre world
    isplitl [HK Hlev]
    · isplitl [HK] <;> iassumption
    isplitl [HO]; · iexact HO
    isplitl [Hat]; · iexact Hat
    isplitl [Ht]; · iexact Ht
    isplitl [Hc]; · iexact Hc
    isplitl [Hx]; · iexact Hx
    isplitl [Hw]; · iexact Hw
    isplitl [Hl]; · iexact Hl
    isplitl [Hscr]; · iexact Hscr
    iexists f; unfold outPts; iexact Hout
  · unfold bodyPost bodyPost'
    iintro ⟨HΦ, ⟨%W', HO⟩, Hout⟩
    isplitl [HΦ]; · iexact HΦ
    isplitl [HO]
    · iexists W'
      isplitr; · ipureintro; exact fun _ _ => Or.inl trivial
      iexact HO
    iexists (outAt m c); isplitr; · (ipureintro; rfl)
    unfold outPts; iexact Hout

/-! ## The launch's side conditions -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf ringCells ringToks, 1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt' m c)
      ⊢ |={Set.univ}=> iprop((start m c ∗ locals c) ∗ emp) := by
  rw [Pipeline.unscopedRestP_none, unscopedRest0_eq]
  iintro ⟨⟨Hx, Hw⟩, Hlev, Hcr, -, HG⟩
  ihave Hc := (creds_intro (F := F) c) $$ Hcr
  imodintro
  unfold start dealt'
  icases HG with ⟨HG, Hl⟩
  isplitl
  · isplitr [Hl]
    · isplitl [HG]; · iexact HG
      isplitl [Hc]; · iexact Hc
      isplitl [Hlev]; · iexact Hlev
      isplitl [Hx]; · unfold xAll; iexact Hx
      unfold wAll; iexact Hw
    iexact Hl
  · iempintro

theorem phi0_intro (c : Dev nD) :
    iprop((start m c ∗ locals c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hl⟩, -, ⟨%f0, H0⟩, ⟨%f1, H1⟩, ⟨%f2, H2⟩, ⟨%f3, H3⟩⟩
  isplitl [Hs]; · iexact Hs
  isplitl [Hl]; · iexact Hl
  isplitl [H0]; · iexists f0; unfold commAll; iexact H0
  isplitl [H1]; · iexists f1; unfold wbufPts; iexact H1
  isplitl [H2]; · iexists f2; unfold txAll; iexact H2
  iexists f3; unfold rxAll; iexact H3

/-- What a device's run leaves to be read: its barrier's counter at zero, and its arguments. -/
def left (c : Dev nD) : sProp 𝕄 := iprop(unscopedSems0 c ∗ xAll m c ∗ wAll m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scratch
  iintro ⟨Hz, Hx, Hw, Hl, ⟨%f0, H0⟩, ⟨%f1, H1⟩, ⟨%f2, H2⟩, ⟨%f3, H3⟩⟩
  ihave Hs := (sems0_back (F := F) c) $$ [Hz Hl]
  · isplitl [Hz] <;> iassumption
  icases Hs with ⟨Hu, Ho⟩
  isplitl [Hu Hx Hw]
  · isplitl [Hu]; · iexact Hu
    isplitl [Hx] <;> iassumption
  isplitl [Ho]; · iexact Ho
  unfold commAll wbufPts txAll rxAll
  isplitl [H0]; · iexists f0; iexact H0
  isplitl [H1]; · iexists f1; iexact H1
  isplitl [H2]; · iexists f2; iexact H2
  iexists f3; iexact H3

theorem waits (c : Dev nD) : (levAts L lv : sProp 𝕄) ⊢ Pipeline.cellsWaits cfgs (dats m) () 0 c :=
  Pipeline.cellsWaits_intro cfgs (dats m) () 0 c fun w s t =>
    mayWait c _ _ (by
      rw [show rlv (cls (.dma (((cfgs 0).win w).sem s))) = 0 by revert w s; decide +kernel]
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m 0 c).arrAt w cfg0.N

/-- The arguments are read off what the run leaves. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_left (c : Dev nD) (s' : Phys nD τ sig (Elt F)) :
    iprop(left m c ∗ emp ∗ SI s') ⊢ (|={Set.univ}=> iprop(⌜QY m c s'.mem⌝ ∗ SI s') : sProp 𝕄) := by
  unfold left xAll wAll
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ hw⟩
  iexact HSI

set_option maxRecDepth 8000 in
/-- From any memory with its counters at zero, every execution ends; the result array holds what the pipeline's data says,
    the arguments are unchanged and every counter is at zero. -/
theorem run_main : θ_run defs (onTc (τ := τ) (main (F := F))) (s₀ m ρ)
    (fun r => (∀ c : Dev nD, (∀ w : Fin cfg0.W, r.2.mem ((cfg0.win w).arr.view.loc (c : Thread nD τ)) = finalA m c w) ∧ QY m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := dealt' m) (u₀ := u₀)
    (hu₀ := by
      unfold u₀
      iintro Hu
      ihave H := (ownU_pair _ _) $$ Hu
      icases H with ⟨HP, HX⟩
      ihave HX' := (own_pair_emb (embR : Emb (UB × Counters) 𝕄) _ _) $$ HX
      icases HX' with ⟨HR, -⟩
      imod (fund_ring m) $$ [HR] with HG
      · unfold ER; iexact HR
      imodintro
      isplitl [HP] <;> iassumption)
    (hglob := glob m)
    (hA := fun _ _ => rfl) (hpf := fun _ k => k.elim0)
    (X := fun c => iprop(start m c ∗ locals c)) (Y := left m) (Z := fun _ => iprop(emp))
    (hX := start_intro m ρ) (hin := phi0_intro m) (hout := phi1_exit m)
    (QY := QY m) (hY := read_left m)
    (hQ := fun _ h hs => ⟨fun c => ⟨fun w => (h c).1 w, (h c).2.2⟩, sem_eq_zero hs fun c => (h c).2.2.1⟩)

/-! ## The result array -/

theorem off_zero (a : Fin 2) : win0_0.kind.off (win0_0.index t0_0 a) (win0_0.size a) = 0 := Nat.zero_mul _

/-- The block written back is the whole array. -/
theorem flushed_eq (c : Dev nD) : (dats m 0 c).flushed 0 t0_0 = ((cfg0.win 0).blk t0_0).view.read (Elt F) (outAt m c) := by
  funext j
  show outAt m c (win0_0.xinj (grid0.coords t0_0) j) = outAt m c (((View.whole main_v1).slice (win0_0.rect t0_0)).emb j)
  refine congrArg (outAt m c) (funext fun a => Fin.ext ?_)
  show (j a : ℕ) = win0_0.kind.off (win0_0.index t0_0 a) (win0_0.size a) + 1 * (j a : ℕ)
  rw [off_zero a, Nat.zero_add, Nat.one_mul]

theorem cover (i : S1024x2048.Idx) : i ∈ ((cfg0.win 0).blk t0_0).view.set := by
  show i ∈ ((View.whole main_v1).slice (win0_0.rect t0_0)).set
  rw [View.set_slice_whole, Rect.mem_set_unit]
  intro a
  rw [off_zero a]
  refine ⟨Nat.zero_le _, ?_⟩
  rw [Nat.zero_add]
  exact (i a).isLt

theorem finalA_out (c : Dev nD) : finalA m c 0 = outAt m c :=
  (dats m 0 c).arrAt_eq_of_cover 0 (outAt m c) (fun t _ => by rw [fin_N0 t]; exact flushed_eq m c) fun i => ⟨t0_0, flush0_0 _, cover i⟩

/-- The run: each device's result is `outAt`, its arguments are unchanged, and every counter is at zero. -/
theorem run (ρ : Dev nD → PrngReg) : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c).1 0).trans (finalA_out m c), (h.1 c).2.2⟩, h.2⟩) (run_main m ρ)

end Cert.KernelIdeal.Ring

end
-- ==== Proof.Val.Frames.lean ====
/-
# The reference's frame
-/
module

public import proofs.«01_k».proof.Proof.Gen.ReferenceIdeal.Run
public import Idealize.ShloMosaic.Lib.Quiescent

@[expose] public section

noncomputable section

namespace Cert.Val

open Cert.ReferenceIdeal Cert.ReferenceIdeal.Gen Idealize.ShloMosaic Idealize.ShloMosaic.TcCoe Idealize.SL.Sem

variable {F : FTy → Type} [FloatOps F]

/-- The reference program has no semaphores. -/
theorem no_sems : sig.nSem + sig.nDmaSem = 0 := rfl

/-- The reference program runs, leaves its arguments unchanged, and ends with every counter at zero (it has none). -/
theorem reference_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems no_sems r.2⟩) (Cert.ReferenceIdeal.Value.run m ρ)

end Cert.Val

end
-- ==== Proof.Val.Max.lean ====
/-
# Largest elements, at the ideal values

At the ideal values a maximum over a whole array, started from minus infinity, is the least upper bound of the array:
it is at most `z` exactly when every element is. Stated for the kernel's reduction, for the host's, and through the
operations that only rearrange elements.
-/
module

public import Idealize.ShloMosaic.PureOps.Ideal.Laws
public import Idealize.ShloMosaic.PureOps.Reduce
public import Idealize.ShloMosaic.Lib.KernelVsHost

@[expose] public section

noncomputable section

namespace Cert.Val

open Idealize.ShloMosaic

variable {s t u : Shape} {axes : List (Fin s.rank)}

/-- The word of minus infinity reads as the bottom of the extended reals. -/
theorem ofBits_neg_inf : (FloatOps.ofBits .f32 0xFF800000#32 : Ideal .f32) = (⊥ : EReal) := by
  show Ideal.ofBits .f32 0xFF800000#32 = ⊥
  simp [Ideal.ofBits, Ideal.ieee]

/-- The kernel's maximum over all axes is at most `z` exactly when every element is. -/
theorem multiReduction_le (src : FVec Ideal s .f32) (h : s.Reduces axes t) (hφ : FKind.Formats .f32)
    (hacc : (0xFF800000#32 : BitVec 32) = FKind.maximumf.neutral .f32 hφ) (j : t.Idx) (ht : ∀ b, t.size b = 1) (z : EReal) :
    (multiReduction .maximumf axes t src 0xFF800000#32 h hφ hacc j : EReal) ≤ z ↔ ∀ i, (src i : EReal) ≤ z := by
  have hd : ∀ i, h.drop i = j := fun i => funext fun b => Fin.ext (by
    have := (h.drop i b).isLt; have := (j b).isLt; have := ht b; omega)
  rw [multiReduction_maximumf_eq_fold, ofBits_neg_inf]
  refine (Finset.fold_max_le (f := fun i => (src i : EReal)) z).trans ⟨fun hz i => hz.2 i ?_, fun hz => ⟨bot_le, fun i _ => hz i⟩⟩
  exact Finset.mem_filter.mpr ⟨Finset.mem_univ _, hd i⟩

/-- The host's maximum over all axes is at most `z` exactly when every element is. -/
theorem hostReduce_le (src : FVec Ideal s .f32) (h : s.ReducesTo axes t) (hu : 0 < u.numel) (j : t.Idx) (ht : ∀ b, t.size b = 1) (z : EReal) :
    LE.le (α := EReal) (Host.reduce (FloatOps.maximumf (F := Ideal) (φ := .f32)) src (constant (F := Ideal) u .f32 0xFF800000#32) h hu j) z ↔ ∀ i, (src i : EReal) ≤ z := by
  have hd : ∀ i, h.drop i = j := fun i => funext fun b => Fin.ext (by
    have := (h.drop i b).isLt; have := (j b).isLt; have := ht b; omega)
  rw [Host.reduce_eq_fold]
  show Finset.fold _ (FloatOps.ofBits .f32 0xFF800000#32 : Ideal .f32) _ _ ≤ z ↔ _
  rw [ofBits_neg_inf]
  refine (Finset.fold_max_le (f := fun i => (src i : EReal)) z).trans ⟨fun hz i => hz.2 i ?_, fun hz => ⟨bot_le, fun i _ => hz i⟩⟩
  exact Finset.mem_filter.mpr ⟨Finset.mem_univ _, hd i⟩

/-- A rearranged array has the bounds of the array. -/
theorem shapeCast_le (x : s.Idx → EReal) (h : s.ShapeCasts t) (z : EReal) :
    (∀ j, shapeCast t x h j ≤ z) ↔ ∀ i, x i ≤ z :=
  ⟨fun hz i => by
    have := hz ((Shape.reshapeEquiv h).symm i)
    unfold shapeCast at this
    rwa [Equiv.apply_symm_apply] at this, fun hz j => hz _⟩

/-- The absolute value of a number that is at least zero is the number. -/
theorem absf_of_nonneg (x : EReal) (h : 0 ≤ x) : (FloatOps.hostAbsf (F := Ideal) (φ := .f32) x : EReal) = x := by
  show max x (-x) = x
  exact max_eq_left ((EReal.neg_le_zero.mpr h).trans h)

end Cert.Val

end
-- ==== Proof.Val.Acc.lean ====
/-
# The accumulator, entry by entry, at the ideal values

The rows of device `c`'s accumulator are rows of the whole product: its entry in row `i` and column `n` is the product of
row `1024 * c + i` of `x` and column `n` of `w`. The kernel adds four partial sums over a quarter of the contraction
each, its own quarter first and then those of the devices one, three and two places after it.
-/
module

public import proofs.«01_k».proof.Proof.KI.Values
public import Idealize.ShloMosaic.Lib.MatmulPlain
public import Idealize.ShloMosaic.Lib.StackMember
public import Idealize.ShloMosaic.Lib.Layout
public import Idealize.ShloMosaic.Lib.Pipeline.ValueKit.Geometry

@[expose] public section

noncomputable section

namespace Cert.Val

open Cert.KernelIdeal Cert.KernelIdeal.Gen Cert.KernelIdeal.Ring
open Idealize.ShloMosaic Idealize.ShloMosaic.TcCoe Idealize.ShloMosaic.ValueIdx
open scoped BigOperators

/-! ## Sums over the contraction, by quarters -/

/-- Position `k` of quarter `s` of the contraction. -/
def quarter (s : Fin 4) (k : Fin 1024) : Fin 4096 := ⟨1024 * s.val + k.val, by omega⟩

/-- A sum over the whole contraction is the sum over the quarters of the sums over each. -/
theorem sum_quarters (f : Fin 4096 → EReal) : ∑ k, f k = ∑ s : Fin 4, ∑ k : Fin 1024, f (quarter s k) := by
  rw [← Fintype.sum_prod_type' (f := fun s k => f (quarter s k))]
  refine (Fintype.sum_equiv (finProdFinEquiv (m := 4) (n := 1024)) _ _ fun p => ?_).symm
  exact congrArg f (Fin.ext (Nat.add_comm _ _))

/-- Four terms, one for each device, added in the order in which device `c` meets them. -/
theorem sum_ring (c : Fin 4) (G : Fin 4 → EReal) : ((G c + G (peer 0 c)) + G (peer 2 c)) + G (peer 1 c) = ∑ s, G s := by
  rw [Fin.sum_univ_four]
  fin_cases c
  · show ((G 0 + G 1) + G 3) + G 2 = _; abel
  · show ((G 1 + G 2) + G 0) + G 3 = _; abel
  · show ((G 2 + G 3) + G 1) + G 0 = _; abel
  · show ((G 3 + G 0) + G 2) + G 1 = _; abel

/-! ## The blocks -/

theorem off2_eq (c : Dev nD) : k0_off2 c = ![1024 * c.val, 0] := by revert c; decide +kernel
theorem off3_eq (c : Dev nD) : k0_off3 c = ![1024 * c.val, 0] := by revert c; decide +kernel

/-- The device that fills slot `j` (slot 3 is filled by the device itself). -/
def src (c : Dev nD) : Fin 4 → Dev nD := fun | 0 => peer 0 c | 1 => peer 1 c | 2 => peer 2 c | 3 => c
/-- The transfer that fills slot `j`. -/
def leg : Fin 4 → Fin 4 := fun | 0 => 2 | 1 => 1 | 2 => 0 | 3 => 3

/-- The block of `x` that fills slot `j` is the block of rows of the device that receives it. -/
theorem xOff_src (c : Dev nD) (j : Fin 4) : xOff (src c j) (leg j) = ![1024 * c.val, 0] := by
  fin_cases j
  · exact (off1_eq2 (peer 0 c)).trans (by rw [show peer 2 (peer 0 c) = c from rev_peer 0 c])
  · exact (off1_eq1 (peer 1 c)).trans (by rw [show peer 1 (peer 1 c) = c from rev_peer 1 c])
  · exact (off1_eq0 (peer 2 c)).trans (by rw [show peer 0 (peer 2 c) = c from rev_peer 2 c])
  · exact off2_eq c

/-- The block of `w` that meets slot `j` is the block of rows of the device that fills it. -/
theorem wOff_src (c : Dev nD) (j : Fin 4) : wOff c j = ![1024 * (src c j).val, 0] := by
  fin_cases j
  · exact off4_eq0 c
  · exact off4_eq1 c
  · exact off4_eq2 c
  · exact off3_eq c

variable {F : FTy → Type} [FloatOps F] (m : (ℓ : Loc nD τ sig) → Buf (Elt F) ℓ)

/-- Row `i` of device `c`'s block of rows of an array of 4096 rows. -/
def row (c : Fin 4) (i : Fin 1024) : Fin 4096 := ⟨1024 * c.val + i.val, by omega⟩

omit [FloatOps F] in
/-- Slot `j` of device `c` holds that device's block of rows of what the filling device keeps of `x`. -/
theorem slotv_apply (c : Dev nD) (j : Fin 4) (i k : Fin 1024) :
    slotv m c j (ix2 i k) = m ((src c j : Thread nD τ).loc main_arg0) (ix2 (row c i) k) := by
  have e : slotv m c j = xblk m (src c j) (leg j) := by fin_cases j <;> rfl
  rw [e]
  refine congrArg (m ((src c j : Thread nD τ).loc main_arg0)) (funext fun a => Fin.ext ?_)
  have h := ValueKit.view_emb_slice_whole_unit_val main_arg0 (xOff (src c j) (leg j)) S1024x1024.size (xOff_inb (src c j) (leg j)) (ix2 i k) a
  refine h.trans ((congrArg (· + _) (congrFun (xOff_src c j) a)).trans ?_)
  match a with
  | ⟨0, _⟩ => rfl
  | ⟨1, _⟩ => exact Nat.zero_add _

omit [FloatOps F] in
/-- What device `c` multiplies slot `j` by is the block of rows of `w` of the device that fills the slot. -/
theorem wblk_apply (c : Dev nD) (j : Fin 4) (k : Fin 1024) (n : Fin 2048) :
    wblk m c j (ix2 k n) = m ((c : Thread nD τ).loc main_arg1) (ix2 (row (src c j) k) n) := by
  refine congrArg (m ((c : Thread nD τ).loc main_arg1)) (funext fun a => Fin.ext ?_)
  have h := ValueKit.view_emb_slice_whole_unit_val main_arg1 (wOff c j) S1024x2048.size (wOff_inb c j) (ix2 k n) a
  refine h.trans ((congrArg (· + _) (congrFun (wOff_src c j) a)).trans ?_)
  match a with
  | ⟨0, _⟩ => rfl
  | ⟨1, _⟩ => exact Nat.zero_add _

/-! ## The products -/

/-- The kernel's product, and the reference's, are plain matrix products. -/
theorem dot_plain : dot_S1024x1024_S1024x2048_S1024x2048_1_0_0_1_n_n = DotDims.plain 1024 1024 2048 := rfl

/-- One partial product: a slot by its block of `w`, with the leading axes put in front and taken away. -/
theorem part_apply (a : FVec Ideal S1024x1024 .f32) (b : FVec Ideal S1024x2048 .f32) (h : S1x1024x1024.ShapeCasts S1024x1024)
    (h' : S1x1024x2048.ShapeCasts S1024x2048) (i : Fin 1024) (n : Fin 2048) :
    matmul dot_S1024x1024_S1024x2048_S1024x2048_1_0_0_1_n_n none
      (shapeCast S1024x1024 (lift squeezes_S1x1024x1024_S1024x1024 a) h) (shapeCast S1024x2048 (lift squeezes_S1x1024x2048_S1024x2048 b) h')
      (constant S1024x2048 .f32 0x00000000#32) (ix2 i n) = ∑ k : Fin 1024, a (ix2 i k) * b (ix2 k n) := by
  have ha : shapeCast S1024x1024 (lift squeezes_S1x1024x1024_S1024x1024 a) h = a := funext fun x => congrArg a (by
    show Shape.reshapeEquiv _ (Shape.reshapeEquiv _ x) = x
    rw [Shape.reshapeEquiv_reshapeEquiv, Shape.reshapeEquiv_self])
  have hb : shapeCast S1024x2048 (lift squeezes_S1x1024x2048_S1024x2048 b) h' = b := funext fun x => congrArg b (by
    show Shape.reshapeEquiv _ (Shape.reshapeEquiv _ x) = x
    rw [Shape.reshapeEquiv_reshapeEquiv, Shape.reshapeEquiv_self])
  rw [ha, hb, dot_plain]
  refine (Ideal.matmul_plain_apply none a b _ i n).trans ?_
  show Ideal.ofBits .f32 0x00000000#32 + _ = _
  rw [Ideal.ofBits_zero_f32, zero_add]

variable (mI : (ℓ : Loc nD τ sig) → Buf (Elt Ideal) ℓ)

/-- The accumulator, entry by entry, as its four partial sums. -/
theorem acc3_apply (c : Dev nD) (i : Fin 1024) (n : Fin 2048) :
    acc3 mI c (ix2 i n) = (((∑ k : Fin 1024, slotv mI c 3 (ix2 i k) * wblk mI c 3 (ix2 k n))
      + ∑ k : Fin 1024, slotv mI c 0 (ix2 i k) * wblk mI c 0 (ix2 k n))
      + ∑ k : Fin 1024, slotv mI c 2 (ix2 i k) * wblk mI c 2 (ix2 k n))
      + ∑ k : Fin 1024, slotv mI c 1 (ix2 i k) * wblk mI c 1 (ix2 k n) := by
  have h0 : acc0 mI c (ix2 i n) = _ := part_apply (slotv mI c 3) (wblk mI c 3) shapeCasts_S1x1024x1024_S1024x1024 shapeCasts_S1x1024x2048_S1024x2048 i n
  have h1 : acc1 mI c (ix2 i n) = acc0 mI c (ix2 i n) + _ := congrArg₂ (fun a b : EReal => a + b)
    (congrFun (shapeCast_self (acc0 mI c) shapeCasts_S1024x2048_S1024x2048) (ix2 i n))
    (part_apply (slotv mI c 0) (wblk mI c 0) shapeCasts_S1x1024x1024_S1024x1024 shapeCasts_S1x1024x2048_S1024x2048 i n)
  have h2 : acc2 mI c (ix2 i n) = acc1 mI c (ix2 i n) + _ := congrArg₂ (fun a b : EReal => a + b)
    (congrFun (shapeCast_self (acc1 mI c) shapeCasts_S1024x2048_S1024x2048) (ix2 i n))
    (part_apply (slotv mI c 2) (wblk mI c 2) shapeCasts_S1x1024x1024_S1024x1024 shapeCasts_S1x1024x2048_S1024x2048 i n)
  have h3 : acc3 mI c (ix2 i n) = acc2 mI c (ix2 i n) + _ := congrArg₂ (fun a b : EReal => a + b)
    (congrFun (shapeCast_self (acc2 mI c) shapeCasts_S1024x2048_S1024x2048) (ix2 i n))
    (part_apply (slotv mI c 1) (wblk mI c 1) shapeCasts_S1x1024x1024_S1024x1024 shapeCasts_S1x1024x2048_S1024x2048 i n)
  rw [h3, h2, h1, h0]

/-- When the devices' arrays are the blocks of columns of `x` and copies of `w`, the accumulator is device `c`'s
    block of rows of the product of `x` and `w`. -/
theorem acc3_eq (x : FVec Ideal ⟨2, ![4096, 4096]⟩ .f32) (w : FVec Ideal ⟨2, ![4096, 2048]⟩ .f32)
    (hx : ∀ c : Dev nD, mI ((c : Thread nD τ).loc main_arg0) = Layout.block ⟨2, ![4096, 1024]⟩ ⟨2, ![4096, 4096]⟩ 1 4 c x)
    (hw : ∀ c : Dev nD, mI ((c : Thread nD τ).loc main_arg1) = w) (c : Dev nD) (i : Fin 1024) (n : Fin 2048) :
    acc3 mI c (ix2 i n) = ∑ k : Fin 4096, x (ix2 (row c i) k) * w (ix2 k n) := by
  have hp : ∀ j : Fin 4, (∑ k : Fin 1024, slotv mI c j (ix2 i k) * wblk mI c j (ix2 k n) : EReal)
      = (fun s : Fin 4 => ∑ k : Fin 1024, x (ix2 (row c i) (quarter s k)) * w (ix2 (quarter s k) n)) (src c j) := fun j =>
    Finset.sum_congr rfl fun k _ => by
      rw [slotv_apply, wblk_apply, hx, hw]
      refine congrArg₂ (fun a b : EReal => a * b) (congrArg x (funext fun a => Fin.ext ?_)) rfl
      match a with
      | ⟨0, _⟩ => rfl
      | ⟨1, _⟩ => show (src c j).val * 1024 + k.val = 1024 * (src c j).val + k.val; rw [Nat.mul_comm]
  rw [acc3_apply, hp 3, hp 0, hp 2, hp 1, sum_quarters]
  exact sum_ring c fun s => ∑ k : Fin 1024, x (ix2 (row c i) (quarter s k)) * w (ix2 (quarter s k) n)

end Cert.Val

end
-- ==== Proof.Val.Out.lean ====
/-
# The result, at the ideal values

Device `c` sends the larger of zero and its accumulator's largest element; so the scale every device uses is computed
from the larger of zero and the largest element of all four accumulators. That is the largest absolute value of the
product with its negative elements set to zero, which is what the reference takes its scale from. The quantiser after it
is the same on both sides, element by element.
-/
module

public import proofs.«01_k».proof.Proof.Val.Max
public import proofs.«01_k».proof.Proof.Val.Acc
public import proofs.«01_k».proof.Proof.Gen.ReferenceIdeal.Run

@[expose] public section

noncomputable section

namespace Cert.Val

open Cert.KernelIdeal Cert.KernelIdeal.Gen Cert.KernelIdeal.Ring
open Idealize.ShloMosaic Idealize.ShloMosaic.TcCoe Idealize.ShloMosaic.ValueIdx
open scoped BigOperators

/-! ## The largest element -/

theorem size_S1 (b : Fin S1.rank) : S1.size b = 1 := by fin_cases b; rfl

/-- The bounds of the larger of two numbers. -/
theorem smax_le (a b : Ideal .f32) (z : EReal) (p q : Prop) (hp : LE.le (α := EReal) a z ↔ p) (hq : LE.le (α := EReal) b z ↔ q) :
    LE.le (α := EReal) (Scalar.maximumf a b) z ↔ p ∧ q := (max_le_iff (α := EReal)).trans (and_congr hp hq)

/-- The bounds of the one element of an array of one element. -/
theorem extract3_le (v : FVec Ideal S1 .f32) (z : EReal) (p : Prop) (h : ∀ j, LE.le (α := EReal) (v j) z ↔ p) :
    LE.le (α := EReal) (extractAt ![0, 0, 0] (shapeCast S1x1x1 v shapeCasts_S1_S1x1x1) inpos_S1x1x1_p0_0_0) z ↔ p := h _
theorem extract4_le (v : FVec Ideal S1 .f32) (z : EReal) (p : Prop) (h : ∀ j, LE.le (α := EReal) (v j) z ↔ p) :
    LE.le (α := EReal) (extractAt ![0, 0, 0, 0] (shapeCast S1x1x1x1 v shapeCasts_S1_S1x1x1x1) inpos_S1x1x1x1_p0_0_0_0) z ↔ p := h _

/-- The bounds of the two reductions' results. -/
theorem red3_le (x : FVec Ideal S1x1024x2048 .f32) (j : S1.Idx) (z : EReal) :
    LE.le (α := EReal) (multiReduction .maximumf [1, 2] S1 x 0xFF800000#32 reduces_S1x1024x2048_S1 (.inl rfl) rfl j) z ↔ ∀ i, LE.le (α := EReal) (x i) z :=
  multiReduction_le _ reduces_S1x1024x2048_S1 (.inl rfl) rfl j size_S1 z
theorem red4_le (x : FVec Ideal S1x3x8x128 .f32) (j : S1.Idx) (z : EReal) :
    LE.le (α := EReal) (multiReduction .maximumf [1, 2, 3] S1 x 0xFF800000#32 reduces_S1x3x8x128_S1 (.inl rfl) rfl j) z ↔ ∀ i, LE.le (α := EReal) (x i) z :=
  multiReduction_le _ reduces_S1x3x8x128_S1 (.inl rfl) rfl j size_S1 z

/-- The bounds of the rearranged accumulator and of the rearranged received maxima. -/
theorem cast3_le (o : S1024x2048.Idx → EReal) (z : EReal) :
    (∀ i, shapeCast S1x1024x2048 (shapeCast S1024x2048 o shapeCasts_S1024x2048_S1024x2048) shapeCasts_S1024x2048_S1x1024x2048 i ≤ z) ↔ ∀ i, o i ≤ z :=
  (shapeCast_le _ _ z).trans (shapeCast_le o _ z)
theorem cast4_le (r : S3x8x128.Idx → EReal) (z : EReal) : (∀ i, shapeCast S1x3x8x128 r shapeCasts_S3x8x128_S1x3x8x128 i ≤ z) ↔ ∀ i, r i ≤ z :=
  shapeCast_le r _ z

/-- The number a device sends. -/
theorem pay7_eq (o : FVec Ideal S1024x2048 .f32) : k0_pay7 (F := Ideal) o = Scalar.maximumf (extractAt ![0, 0, 0] (shapeCast S1x1x1
      (multiReduction .maximumf [1, 2] S1 (shapeCast S1x1024x2048 (shapeCast S1024x2048 o shapeCasts_S1024x2048_S1024x2048) shapeCasts_S1024x2048_S1x1024x2048)
        0xFF800000#32 reduces_S1x1024x2048_S1 (.inl rfl) rfl) shapeCasts_S1_S1x1x1) inpos_S1x1x1_p0_0_0) (Scalar.ofBits .f32 0x00000000#32) := rfl
theorem zero_le_iff (z : EReal) : LE.le (α := EReal) (Scalar.ofBits (F := Ideal) .f32 0x00000000#32) z ↔ 0 ≤ z := by
  show Ideal.ofBits .f32 0x00000000#32 ≤ z ↔ _
  rw [Ideal.ofBits_zero_f32]

/-- What a device sends is at most `z` exactly when its accumulator's elements and zero are. -/
theorem pay7_le (o : FVec Ideal S1024x2048 .f32) (z : EReal) :
    LE.le (α := EReal) (k0_pay7 (F := Ideal) o) z ↔ (∀ i, LE.le (α := EReal) (o i) z) ∧ 0 ≤ z := by
  rw [pay7_eq]
  exact smax_le _ _ z _ _ (extract3_le _ z _ fun j => (red3_le _ j z).trans (cast3_le o z)) (zero_le_iff z)

variable (m : (ℓ : Loc nD τ sig) → Buf (Elt Ideal) ℓ)

/-- One number put in every place. -/
theorem splat_apply (g : Ideal .f32) (x : S8x128.Idx) : shapeCast S8x128 (broadcast S8x128 g) shapeCasts_S8x128_S8x128 x = g := rfl

/-- What a device sends is one number, in every place. -/
theorem pay8_apply (o : FVec Ideal S1024x2048 .f32) (x : S8x128.Idx) : k0_pay8 (F := Ideal) o x = k0_pay7 (F := Ideal) o :=
  splat_apply (k0_pay7 (F := Ideal) o) x

/-- The buffer of received maxima, each slot written with one number in every place. -/
theorem slots_apply (f : FVec Ideal S3x8x128 .f32) (w : Fin 3 → FVec Ideal S8x128 .f32) (g : Fin 3 → Ideal .f32) (hw : ∀ k x, w k x = g k)
    (i : S3x8x128.Idx) : (rxM (i 0)).view.write (Elt Ideal) f (w (i 0)) Finset.univ i = g (i 0) := by
  obtain ⟨x, -, hx⟩ := Finset.mem_map.mp ((mem_rxS (i 0) i).mpr rfl)
  generalize i 0 = k at hx ⊢
  rw [← hx]
  exact (View.write_emb_of_mem (v := (rxM k).view) _ _ (Finset.mem_univ x)).trans (hw k x)

/-- Every element of slot `k` of the received maxima is what the device that fills it sent. -/
theorem rxBuf_apply (c : Dev nD) (i : S3x8x128.Idx) : rxBuf m c i = k0_pay7 (F := Ideal) (acc3 m (peer (i 0) c)) :=
  slots_apply (constant S3x8x128 .f32 0#32) (fun k => txv m (peer k c)) (fun k => k0_pay7 (F := Ideal) (acc3 m (peer k c)))
    (fun k x => pay8_apply (acc3 m (peer k c)) x) i

/-- The largest of three slots of received maxima, each slot one number in every place. -/
theorem pay9_le (r : FVec Ideal S3x8x128 .f32) (f : Fin 3 → EReal) (hr : ∀ i, r i = f (i 0)) (j : S1.Idx) (z : EReal) :
    LE.le (α := EReal) (k0_pay9 (F := Ideal) r j) z ↔ ∀ k : Fin 3, f k ≤ z := by
  refine (red4_le (shapeCast S1x3x8x128 r shapeCasts_S3x8x128_S1x3x8x128) j z).trans ((cast4_le r z).trans ⟨fun h k => ?_, fun h i => ?_⟩)
  · exact (hr (ix3 k (0 : Fin 8) (0 : Fin 128))).symm.le.trans (h (ix3 k (0 : Fin 8) (0 : Fin 128)))
  · exact (hr i).le.trans (h (i 0))

/-- The number the scale is computed from: the larger of the device's own and the largest received. -/
def topOf (g : Ideal .f32) (v : FVec Ideal S1 .f32) : Ideal .f32 :=
  Scalar.maximumf g (extractAt ![0, 0, 0, 0] (shapeCast S1x1x1x1 v shapeCasts_S1_S1x1x1x1) inpos_S1x1x1x1_p0_0_0_0)

theorem topOf_le (g : Ideal .f32) (v : FVec Ideal S1 .f32) (z : EReal) (p q : Prop) (hg : LE.le (α := EReal) g z ↔ p) (hv : ∀ j, LE.le (α := EReal) (v j) z ↔ q) :
    LE.le (α := EReal) (topOf g v) z ↔ p ∧ q := by
  exact smax_le g _ z p q hg (extract4_le v z q hv)

/-- Device `c`'s. -/
def top (c : Dev nD) : Ideal .f32 := topOf (k0_pay7 (acc3 m c)) (k0_pay9 (rxBuf m c))

/-- A device is `c` or one of the three after it. -/
theorem ring_cases (c d : Dev nD) : d = c ∨ ∃ k : Fin 3, d = peer k c := by revert c d; decide

/-- It is at most `z` exactly when every device's accumulator and zero are. -/
theorem top_le (c : Dev nD) (z : EReal) : LE.le (α := EReal) (top m c) z ↔ (∀ (d : Dev nD) i, LE.le (α := EReal) (acc3 m d i) z) ∧ 0 ≤ z := by
  unfold top
  refine (topOf_le _ _ z _ _ (pay7_le (acc3 m c) z) fun j => (pay9_le (rxBuf m c) (fun k => k0_pay7 (F := Ideal) (acc3 m (peer k c)))
    (rxBuf_apply m c) j z).trans (forall_congr' fun k => pay7_le (acc3 m (peer k c)) z)).trans ?_
  generalize acc3 m = A
  constructor
  · rintro ⟨h0, hk⟩
    refine ⟨fun d => ?_, h0.2⟩
    rcases ring_cases c d with h | ⟨k, h⟩
    · rw [h]; exact h0.1
    · rw [h]; exact (hk k).1
  · rintro ⟨hz, h0⟩
    exact ⟨⟨hz c, h0⟩, fun k => ⟨hz _, h0⟩⟩

/-! ## The quantiser -/

/-- One element quantised with scale `g / 127`: what both programs compute of an element `y` of the product. -/
def quant (g y : EReal) : EReal :=
  FloatOps.mulf (F := Ideal) (φ := .f32)
    (FloatOps.minimumf (F := Ideal) (φ := .f32) (Ideal.ofBits .f32 0x42FE0000#32)
      (FloatOps.maximumf (F := Ideal) (φ := .f32) (Ideal.ofBits .f32 0xC2FE0000#32)
        (Ideal.liftRound Ideal.roundHalfEven (Ideal.div (max y 0) (Ideal.div g (Ideal.ofBits .f32 0x42FE0000#32))))))
    (Ideal.div g (Ideal.ofBits .f32 0x42FE0000#32))

/-- The kernel's last payload, element by element. -/
theorem pay10_apply (g : Ideal .f32) (v : FVec Ideal S1 .f32) (o : FVec Ideal S1024x2048 .f32) (i : S1024x2048.Idx) :
    (k0_pay10 (F := Ideal) g v o i : EReal)
      = quant (topOf g v) (o i) := by
  unfold k0_pay10 quant topOf
  rw [shapeCast_self, ← Ideal.ofBits_zero_f32]
  rfl

/-- The kernel's result, element by element. -/
theorem outAt_apply (c : Dev nD) (i : S1024x2048.Idx) : (outAt m c i : EReal) = quant (top m c) (acc3 m c i) := by
  unfold outAt top
  exact pay10_apply _ _ _ i

end Cert.Val

end
-- ==== Proof.Val.Bridge.lean ====
/-
# The kernel's results are the blocks of the reference's
-/
module

public import proofs.«01_k».proof.Proof.Val.Out
public import proofs.«01_k».proof.Proof.Gen.ReferenceIdeal.Run

@[expose] public section

noncomputable section

namespace Cert.Val

open Cert.ReferenceIdeal Cert.ReferenceIdeal.Gen
open Idealize.ShloMosaic Idealize.ShloMosaic.TcCoe Idealize.ShloMosaic.ValueIdx
open scoped BigOperators

/-! ## The reference's value, from the product `y` -/

/-- The kernel's first argument is cut in four along its columns, -/
theorem tiles_x : Layout.Tiles ⟨2, ![4096, 1024]⟩ ⟨2, ![4096, 4096]⟩ 1 4 := by decide

/-- and its result in four along its rows. -/
theorem tiles_out : Layout.Tiles ⟨2, ![1024, 2048]⟩ ⟨2, ![4096, 2048]⟩ 0 4 := by decide

/-- The reference's product with its negative elements set to zero. -/
def relu (y : FVec Ideal S4096x2048 .f32) : FVec Ideal S4096x2048 .f32 :=
  maximumf y (broadcastInDim S4096x2048 ![] bcast_S_S4096x2048 (constant S_ .f32 0x00000000#32))

/-- Its largest absolute value. -/
def amax (y : FVec Ideal S4096x2048 .f32) : FVec Ideal S_ .f32 :=
  Host.reduce (FloatOps.maximumf (F := Ideal) (φ := .f32)) (Host.absf (relu y)) (constant (F := Ideal) S_ .f32 0xFF800000#32) reducesTo_S4096x2048_S_d0_1 h_S_

/-- The reference's result, given the largest absolute value. -/
def refOf (a : FVec Ideal S_ .f32) (y : FVec Ideal S4096x2048 .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (relu y) (broadcastInDim S4096x2048 ![] bcast_S_S4096x2048 (Host.divf a (constant S_ .f32 0x42FE0000#32)))))))
    (broadcastInDim S4096x2048 ![] bcast_S_S4096x2048 (Host.divf a (constant S_ .f32 0x42FE0000#32)))

/-- The product of `x` and `w`. -/
def prod (x : FVec Ideal S4096x4096 .f32) (w : FVec Ideal S4096x2048 .f32) : FVec Ideal S4096x2048 .f32 :=
  Host.dotGeneral dot_S4096x4096_S4096x2048_S4096x2048_1_0_0_1_n_n none x w

/-- The product, entry by entry. -/
theorem prod_apply (x : FVec Ideal S4096x4096 .f32) (w : FVec Ideal S4096x2048 .f32) (r : Fin 4096) (n : Fin 2048) :
    prod x w (ix2 r n) = ∑ k : Fin 4096, x (ix2 r k) * w (ix2 k n) :=
  StackMember.dotGeneral_plain_apply none x w r n

theorem relu_apply (y : FVec Ideal S4096x2048 .f32) (i : S4096x2048.Idx) : relu y i = max (α := EReal) (y i) 0 := by
  show max (α := EReal) (y i) (Ideal.ofBits .f32 0x00000000#32) = _
  rw [Ideal.ofBits_zero_f32]

/-- The largest absolute value is at most `z` exactly when zero and every element of the product are. -/
theorem amax_le (y : FVec Ideal S4096x2048 .f32) (j : S_.Idx) (z : EReal) :
    LE.le (α := EReal) (amax y j) z ↔ (∀ i, LE.le (α := EReal) (y i) z) ∧ 0 ≤ z := by
  have e : ∀ i, (Host.absf (relu y)) i = max (α := EReal) (y i) 0 := fun i =>
    (absf_of_nonneg (relu y i) (by rw [relu_apply]; exact le_max_right _ _)).trans (relu_apply y i)
  refine (hostReduce_le _ reducesTo_S4096x2048_S_d0_1 h_S_ j (fun b => b.elim0) z).trans ⟨fun h => ?_, fun h i => ?_⟩
  · have h' := fun i => max_le_iff.mp ((e i).symm.le.trans (h i))
    exact ⟨fun i => (h' i).1, (h' (ix2 (0 : Fin 4096) (0 : Fin 2048))).2⟩
  · exact (e i).le.trans (max_le (h.1 i) h.2)

/-- The reference's result, element by element: the same quantiser. -/
theorem refOf_apply (a : FVec Ideal S_ .f32) (y : FVec Ideal S4096x2048 .f32) (g : Ideal .f32) (ha : ∀ j, a j = g) (i : S4096x2048.Idx) :
    refOf a y i = quant g (y i) := by
  have h : a = fun _ => g := funext ha
  rw [h]
  unfold quant
  rw [← relu_apply y i]
  rfl

/-! ## The kernel's value -/

/-- An index of a whole array names a device and an index of its block of rows. -/
theorem row_split (i : S4096x2048.Idx) : ∃ (d : Fin 4) (r : Fin 1024) (n : Fin 2048), i = ix2 (row d r) n := by
  have hi : (i 0).val < 4096 := (i 0).isLt
  refine ⟨⟨(i 0).val / 1024, by omega⟩, ⟨(i 0).val % 1024, by omega⟩, i 1, ?_⟩
  funext a; apply Fin.ext
  match a with
  | ⟨0, _⟩ => exact (Nat.div_add_mod (i 0).val 1024).symm
  | ⟨1, _⟩ => rfl

/-- An index of a block is its two coordinates. -/
theorem pair_split (i : Cert.KernelIdeal.S1024x2048.Idx) : ∃ (r : Fin 1024) (n : Fin 2048), i = ix2 r n := by
  refine ⟨i 0, i 1, ?_⟩
  funext a; match a with
  | ⟨0, _⟩ => rfl
  | ⟨1, _⟩ => rfl

section

variable (m : (ℓ : Loc Cert.KernelIdeal.nD Cert.KernelIdeal.τ Cert.KernelIdeal.sig) → Buf (Elt Ideal) ℓ)
  (x : FVec Ideal S4096x4096 .f32) (w : FVec Ideal S4096x2048 .f32)
  (hx : ∀ c : Dev Cert.KernelIdeal.nD, m ((c : Thread Cert.KernelIdeal.nD Cert.KernelIdeal.τ).loc Cert.KernelIdeal.main_arg0)
    = Layout.block ⟨2, ![4096, 1024]⟩ ⟨2, ![4096, 4096]⟩ 1 4 c x tiles_x)
  (hw : ∀ c : Dev Cert.KernelIdeal.nD, m ((c : Thread Cert.KernelIdeal.nD Cert.KernelIdeal.τ).loc Cert.KernelIdeal.main_arg1) = w)

include hx hw

/-- Each accumulator is its device's block of rows of the product. -/
theorem acc3_prod (c : Dev Cert.KernelIdeal.nD) (i : Fin 1024) (n : Fin 2048) :
    Cert.KernelIdeal.Ring.acc3 m c (ix2 i n) = prod x w (ix2 (row c i) n) :=
  (acc3_eq m x w hx hw c i n).trans (prod_apply x w (row c i) n).symm

/-- The accumulators together hold every entry of the product. -/
theorem bounds_iff (z : EReal) :
    (∀ (d : Dev Cert.KernelIdeal.nD) i, LE.le (α := EReal) (Cert.KernelIdeal.Ring.acc3 m d i) z) ↔ ∀ i, LE.le (α := EReal) (prod x w i) z := by
  constructor
  · intro h i
    obtain ⟨d, r, n, rfl⟩ := row_split i
    exact (acc3_prod m x w hx hw d r n).symm.le.trans (h d _)
  · intro h d i
    obtain ⟨r, n, rfl⟩ := pair_split i
    exact (acc3_prod m x w hx hw d r n).le.trans (h _)

/-- Both programs take their scale from the same number. -/
theorem amax_eq_top (c : Dev Cert.KernelIdeal.nD) (j : S_.Idx) : amax (prod x w) j = top m c :=
  eq_of_forall_ge_iff (α := EReal) fun z =>
    (amax_le (prod x w) j z).trans ((and_congr (bounds_iff m x w hx hw z).symm Iff.rfl).trans (top_le m c z).symm)

/-- Device `c`'s result is block `c` of the rows of the reference's. -/
theorem out_eq (c : Dev Cert.KernelIdeal.nD) : Cert.KernelIdeal.Ring.outAt m c
    = Layout.block ⟨2, ![1024, 2048]⟩ ⟨2, ![4096, 2048]⟩ 0 4 c (refOf (amax (prod x w)) (prod x w)) tiles_out := by
  funext i
  obtain ⟨r, n, rfl⟩ := pair_split i
  refine (outAt_apply m c _).trans (Eq.symm ?_)
  refine (refOf_apply (amax (prod x w)) (prod x w) (top m c) (amax_eq_top m x w hx hw c) _).trans (congrArg (quant (top m c)) ?_)
  refine Eq.trans ?_ (acc3_prod m x w hx hw c r n).symm
  refine congrArg (prod x w) (funext fun a => Fin.ext ?_)
  match a with
  | ⟨0, _⟩ => show c.val * 1024 + r.val = 1024 * c.val + r.val; rw [Nat.mul_comm]
  | ⟨1, _⟩ => rfl

end

/-! ## The reference's run -/

/-- The reference leaves `refOf`, of its arguments' product, in its result and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11)
          = refOf (amax (prod (m ((c.tc : Thread nD τ).loc main_arg0)) (m ((c.tc : Thread nD τ).loc main_arg1))))
              (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold refOf amax prod relu
  exact Cert.ReferenceIdeal.Value.run m ρ

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Val.Frames
public import proofs.«01_k».proof.Proof.Val.Bridge
public import Idealize.ShloMosaic.Adequacy
public import Idealize.ShloMosaic.Init

@[expose] public section

noncomputable section

namespace Cert.Proof

open Idealize.ShloMosaic Idealize.SL.Sem Cert.Kernel

/-- The kernel, at its own float values, runs from any memory, leaves its arguments unchanged and every counter at zero. -/
theorem kernel_frame : Cert.quiescent_Kernel (hKernel := Cert.Kernel.Gen.facts) := fun m g _ =>
  (θ_run _ _ _).mono (fun _ h => ⟨fun c => (h.1 c).2, h.2⟩) (Cert.Kernel.Ring.run m g)

/-- So does the same program at the ideal values. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Ring.run m g)

/-- And the reference. -/
theorem referenceIdeal_frame : Cert.quiescent_ReferenceIdeal (hReferenceIdeal := Cert.ReferenceIdeal.Gen.facts) := fun m g _ =>
  Cert.Val.reference_frame m g

/-- At the ideal values each device's result is its block of rows of the reference's result. -/
theorem algebraic : Cert.algebraic_KernelIdeal_ReferenceIdeal (hKernelIdeal := Cert.KernelIdeal.Gen.facts)
    (hReferenceIdeal := Cert.ReferenceIdeal.Gen.facts) := by
  intro m g m' g' _ hargs
  have hx := fun c => (hargs c).1
  have hw := fun c => (hargs c).2
  exact ⟨Cert.Val.refOf
      (Cert.Val.amax (Cert.Val.prod (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))))
      (Cert.Val.prod (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))),
    (θ_run _ _ _).mono (fun _ h c => ⟨(h.1 c).1.trans (Cert.Val.out_eq m _ _ hx hw c), (h.1 c).2⟩)
      (Cert.KernelIdeal.Ring.run m g),
    (θ_run _ _ _).mono (fun _ h => h 0) (Cert.Val.reference_run m' g')⟩

/-- The five claims together. -/
theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
